-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![2048, 2048]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 2048]⟩ ⟨2, ![2048, 4096]⟩ (Layout.meshBlock [2, 2] ![[0], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 2048]⟩ ⟨2, ![2048, 4096]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S2 : Shape := ⟨1, ![2]⟩
abbrev S4 : Shape := ⟨1, ![4]⟩
abbrev S_ : Shape := ⟨0, ![]⟩
abbrev S1 : Shape := ⟨1, ![1]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .f32⟩
  | .local _ .vmem, ⟨0, _⟩ => ⟨S2048x1024, .bf16⟩
  | .local _ .vmem, ⟨1, _⟩ => ⟨S1024x2048, .bf16⟩
  | .local _ .vmem, ⟨2, _⟩ => ⟨S2048x2048, .f32⟩
  | .local _ .vmem, ⟨3, _⟩ => ⟨S2048x1024, .bf16⟩
  | .local _ .vmem, ⟨4, _⟩ => ⟨S1024x2048, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v17 : BitVec 32 := Scalar.muli v5 c1024_i32
  let c0_i32_19 : BitVec 32 := 0#32
  ![v17.toNat, 0]
def k0_dev3 (d0 : Dev nD) : Nat :=
  let c0_i32_17 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_16 : BitVec 32 := 2#32
  let v20 : BitVec 32 := Scalar.muli v6 c2_i32_16
  let v21 : BitVec 32 := Scalar.addi c0_i32_17 v20
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_18 : BitVec 32 := 1#32
  let v22 : BitVec 32 := Scalar.muli v5 c1_i32_18
  let v23 : BitVec 32 := Scalar.addi v21 v22
  v23.toNat
def k0_dev4 (d0 : Dev nD) : Nat :=
  let c0_i32_24 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_23 : BitVec 32 := 2#32
  let v30 : BitVec 32 := Scalar.muli v6 c2_i32_23
  let v31 : BitVec 32 := Scalar.addi c0_i32_24 v30
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v32 : BitVec 32 := Scalar.muli v5 c1_i32_25
  let v33 : BitVec 32 := Scalar.addi v31 v32
  v33.toNat
def k0_dev5 (d0 : Dev nD) : Nat :=
  let c0_i32_33 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_32 : BitVec 32 := 2#32
  let v40 : BitVec 32 := Scalar.muli v6 c2_i32_32
  let v41 : BitVec 32 := Scalar.addi c0_i32_33 v40
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_34 : BitVec 32 := 1#32
  let v42 : BitVec 32 := Scalar.muli v5 c1_i32_34
  let v43 : BitVec 32 := Scalar.addi v41 v42
  v43.toNat
def k0_dev6 (d0 : Dev nD) : Nat :=
  let c0_i32_41 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_40 : BitVec 32 := 2#32
  let v50 : BitVec 32 := Scalar.muli v6 c2_i32_40
  let v51 : BitVec 32 := Scalar.addi c0_i32_41 v50
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_42 : BitVec 32 := 1#32
  let v52 : BitVec 32 := Scalar.muli v5 c1_i32_42
  let v53 : BitVec 32 := Scalar.addi v51 v52
  v53.toNat
def k0_dev7 (d0 : Dev nD) : Nat :=
  let c0_i32_49 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_48 : BitVec 32 := 2#32
  let v60 : BitVec 32 := Scalar.muli v6 c2_i32_48
  let v61 : BitVec 32 := Scalar.addi c0_i32_49 v60
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_50 : BitVec 32 := 1#32
  let v62 : BitVec 32 := Scalar.muli v5 c1_i32_50
  let v63 : BitVec 32 := Scalar.addi v61 v62
  v63.toNat
def k0_dev8 (d0 : Dev nD) : Nat :=
  let c0_i32_69 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_68 : BitVec 32 := 2#32
  let v84 : BitVec 32 := Scalar.muli v2 c2_i32_68
  let v85 : BitVec 32 := Scalar.addi c0_i32_69 v84
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_70 : BitVec 32 := 1#32
  let v86 : BitVec 32 := Scalar.muli v7 c1_i32_70
  let v87 : BitVec 32 := Scalar.addi v85 v86
  v87.toNat
def k0_off2 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v17 : BitVec 32 := Scalar.muli v5 c1024_i32
  let v102 : Index := Scalar.indexCast v17
  let c0_82 : Index := 0#32
  ![v102.toNat, 0]
def k0_off3 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v17 : BitVec 32 := Scalar.muli v5 c1024_i32
  let v105 : Index := Scalar.indexCast v17
  let c0_83 : Index := 0#32
  ![v105.toNat, 0]
def k0_off4 (d0 : Dev nD) : Fin 2 → Nat :=
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c1024_i32_13 : BitVec 32 := 1024#32
  let v19 : BitVec 32 := Scalar.muli v18 c1024_i32_13
  let v120 : Index := Scalar.indexCast v19
  let c0_95 : Index := 0#32
  ![v120.toNat, 0]
def k0_off5 (d0 : Dev nD) : Fin 2 → Nat :=
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c1024_i32_13 : BitVec 32 := 1024#32
  let v19 : BitVec 32 := Scalar.muli v18 c1024_i32_13
  let v123 : Index := Scalar.indexCast v19
  let c0_96 : Index := 0#32
  ![v123.toNat, 0]
def k0_off6 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v17 : BitVec 32 := Scalar.muli v5 c1024_i32
  let v138 : Index := Scalar.indexCast v17
  let c512 : Index := 512#32
  ![v138.toNat, 512]
def k0_off7 (d0 : Dev nD) : Fin 2 → Nat :=
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c1024_i32_13 : BitVec 32 := 1024#32
  let v19 : BitVec 32 := Scalar.muli v18 c1024_i32_13
  let v148 : Index := Scalar.indexCast v19
  let c512_115 : Index := 512#32
  ![v148.toNat, 512]
def k0_off8 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v17 : BitVec 32 := Scalar.muli v5 c1024_i32
  let v166 : Index := Scalar.indexCast v17
  let c1024 : Index := 1024#32
  ![v166.toNat, 1024]
def k0_off9 (d0 : Dev nD) : Fin 2 → Nat :=
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c1024_i32_13 : BitVec 32 := 1024#32
  let v19 : BitVec 32 := Scalar.muli v18 c1024_i32_13
  let v176 : Index := Scalar.indexCast v19
  let c1024_135 : Index := 1024#32
  ![v176.toNat, 1024]
def k0_off10 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v17 : BitVec 32 := Scalar.muli v5 c1024_i32
  let v194 : Index := Scalar.indexCast v17
  let c1536 : Index := 1536#32
  ![v194.toNat, 1536]
def k0_off11 (d0 : Dev nD) : Fin 2 → Nat :=
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c1024_i32_13 : BitVec 32 := 1024#32
  let v19 : BitVec 32 := Scalar.muli v18 c1024_i32_13
  let v204 : Index := Scalar.indexCast v19
  let c1536_155 : Index := 1536#32
  ![v204.toNat, 1536]
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S2048x4096 : Shape := ⟨2, ![2048, 4096]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S2048x4096, .f32⟩
  | .hbm, ⟨3, _⟩ => ⟨S2048x4096, .bf16⟩
  | .hbm, ⟨4, _⟩ => ⟨S2048x4096, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.KernelIdeal.Mesh.lean ====
/-
# The mesh, the buffers' windows and the blocks that travel

The four devices form a 2 × 2 mesh: device `2 * x + y`. Every device exchanges blocks with two others, the one
across the first axis (`across`) and the one across the second axis (`beside`). This module names those two, the
windows of the buffers the kernel copies between devices and how the windows split their buffers. Nothing here
depends on what a float is.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.ViewIndex
public import Idealize.ShloMosaic.Lib.Tactic

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem

/-! ## The two neighbours of a device -/

set_option backward.proofsInPublic true in
/-- The device across the first mesh axis: the other `x`, the same `y`. -/
def across (c : Dev nD) : Dev nD := ⟨(c.val + 2) % 4, Nat.mod_lt _ (by decide)⟩
set_option backward.proofsInPublic true in
/-- The device beside on the second mesh axis: the same `x`, the other `y`. -/
def beside (c : Dev nD) : Dev nD := ⟨2 * (c.val / 2) + (1 - c.val % 2), by have h : c.val < 4 := c.isLt; show _ < 4; omega⟩

theorem across_across (c : Dev nD) : across (across c) = c := by revert c; decide
theorem beside_beside (c : Dev nD) : beside (beside c) = c := by revert c; decide

/-- The exchanges as permutations of the devices, each its own inverse. -/
def acrossE : Dev nD ≃ Dev nD := ⟨across, across, across_across, across_across⟩
def besideE : Dev nD ≃ Dev nD := ⟨beside, beside, beside_beside, beside_beside⟩

/-- The devices the kernel addresses: the first signal and the five copies out of the arguments go across, the second
    signal and the forwarded copy go beside. -/
theorem dev1_eq (c : Dev nD) : (⟨k0_dev1 c, k0_dev1_lt c⟩ : Dev nD) = across c := by revert c; decide +kernel
theorem dev2_eq (c : Dev nD) : (⟨k0_dev2 c, k0_dev2_lt c⟩ : Dev nD) = beside c := by revert c; decide +kernel
theorem dev3_eq (c : Dev nD) : (⟨k0_dev3 c, k0_dev3_lt c⟩ : Dev nD) = across c := by revert c; decide +kernel
theorem dev4_eq (c : Dev nD) : (⟨k0_dev4 c, k0_dev4_lt c⟩ : Dev nD) = across c := by revert c; decide +kernel
theorem dev5_eq (c : Dev nD) : (⟨k0_dev5 c, k0_dev5_lt c⟩ : Dev nD) = across c := by revert c; decide +kernel
theorem dev6_eq (c : Dev nD) : (⟨k0_dev6 c, k0_dev6_lt c⟩ : Dev nD) = across c := by revert c; decide +kernel
theorem dev7_eq (c : Dev nD) : (⟨k0_dev7 c, k0_dev7_lt c⟩ : Dev nD) = across c := by revert c; decide +kernel
theorem dev8_eq (c : Dev nD) : (⟨k0_dev8 c, k0_dev8_lt c⟩ : Dev nD) = beside c := by revert c; decide +kernel

/-! ## The buffers -/

/-- The staged argument blocks, the result block, and the two scratch buffers that receive the neighbours' blocks. -/
abbrev aM : Memref sig .tc .vmem S2048x1024 .bf16 := Memref.whole cc0_stg0_0
abbrev bM : Memref sig .tc .vmem S1024x2048 .bf16 := Memref.whole cc0_stg1_0
abbrev oM : Memref sig .tc .vmem S2048x2048 .f32 := Memref.whole cc0_stg2_0
abbrev paM : Memref sig .tc .vmem S2048x1024 .bf16 := Memref.whole cc0_scratch0
abbrev pbM : Memref sig .tc .vmem S1024x2048 .bf16 := Memref.whole cc0_scratch1

/-! ## The windows -/

/-- The rows of a `2048 × 1024` block that device `c` sends: half `y` of them. -/
abbrev halfR (c : Dev nD) : Rect S2048x1024 := Rect.unit (s := S2048x1024) (k0_off1 c) S1024x1024.size (k0_off1_inb c)

/-- The `j`-th of the four strips of 512 columns of a `1024 × 2048` block. -/
abbrev stripR : Fin 4 → Rect S1024x2048
  | 0 => Rect.unit (s := S1024x2048) ![0, 0] S1024x512.size inb_S1024x2048_S1024x512_0_0
  | 1 => Rect.unit (s := S1024x2048) ![0, 512] S1024x512.size inb_S1024x2048_S1024x512_0_512
  | 2 => Rect.unit (s := S1024x2048) ![0, 1024] S1024x512.size inb_S1024x2048_S1024x512_0_1024
  | 3 => Rect.unit (s := S1024x2048) ![0, 1536] S1024x512.size inb_S1024x2048_S1024x512_0_1536

/-- The elements of the half, and of the strips. -/
abbrev halfSet (c : Dev nD) : Finset S2048x1024.Idx := (halfR c).set
abbrev stripSet (j : Fin 4) : Finset S1024x2048.Idx := (stripR j).set

theorem off1_across (c : Dev nD) : k0_off1 (across c) = k0_off1 c := by revert c; decide +kernel
theorem off3_eq_off1 (c : Dev nD) : k0_off3 c = k0_off1 c := by rw [k0_off3_eq, k0_off1_eq]
theorem off5_eq_off1 (c : Dev nD) : k0_off5 c = k0_off1 (beside c) := by revert c; decide +kernel

/-- Membership in the half: the rows from `1024 y` on. -/
theorem mem_halfSet (c : Dev nD) (i : S2048x1024.Idx) :
    i ∈ halfSet c ↔ 1024 * (c.val % 2) ≤ (i 0).val ∧ (i 0).val < 1024 * (c.val % 2) + 1024 := by
  unfold halfSet halfR
  rw [Rect.mem_set_unit, k0_off1_eq]
  constructor
  · intro h; exact h 0
  · intro h a
    fin_cases a
    · exact h
    · exact ⟨Nat.zero_le _, by have := (i 1).isLt; simpa using this⟩

/-- The half does not depend on the first mesh coordinate. -/
theorem halfSet_across (c : Dev nD) : halfSet (across c) = halfSet c := by
  ext i; rw [mem_halfSet, mem_halfSet]
  have h : (across c).val % 2 = c.val % 2 := by revert c; decide
  rw [h]

/-- What is not in a device's half is in the half of the device beside it. -/
theorem univ_sdiff_halfSet (c : Dev nD) : Finset.univ \ halfSet c = halfSet (beside c) := by
  ext i; rw [Finset.mem_sdiff, mem_halfSet, mem_halfSet]
  have h : (beside c).val % 2 = 1 - c.val % 2 := by revert c; decide
  have hi : (i 0).val < 2048 := (i 0).isLt
  rw [h]
  constructor
  · rintro ⟨-, h1⟩; omega
  · intro h1; exact ⟨Finset.mem_univ _, by omega⟩

/-- Membership in a strip: the columns from `512 j` on. -/
theorem mem_stripSet (j : Fin 4) (i : S1024x2048.Idx) :
    i ∈ stripSet j ↔ 512 * j.val ≤ (i 1).val ∧ (i 1).val < 512 * j.val + 512 := by
  have h0 : (i 0).val < 1024 := (i 0).isLt
  fin_cases j <;>
  · unfold stripSet stripR
    dsimp only
    rw [Rect.mem_set_unit]
    constructor
    · intro h; exact h 1
    · intro h a
      fin_cases a
      · exact ⟨Nat.zero_le _, by simpa using h0⟩
      · exact h

theorem stripSet_disjoint {j j' : Fin 4} (h : j ≠ j') : Disjoint (stripSet j) (stripSet j') := by
  rw [Finset.disjoint_left]
  intro i hi hi'
  rw [mem_stripSet] at hi hi'
  exact h (Fin.ext (by omega))

theorem stripSet_cover : (Finset.univ : Finset (Fin 4)).biUnion stripSet = Finset.univ := by
  ext i
  have hi : (i 1).val < 2048 := (i 1).isLt
  simp only [Finset.mem_biUnion, Finset.mem_univ, true_and, iff_true]
  exact ⟨⟨(i 1).val / 512, by omega⟩, by rw [mem_stripSet]; dsimp only; omega⟩

end Cert.KernelIdeal.Exchange

end
-- ==== Proof.KernelIdeal.Schedule.lean ====
/-
# The exchange as a schedule

Every device owns thirteen semaphore cells. Cell 0 is the barrier semaphore; cells 1 to 12 are the kernel's DMA
semaphores 3 to 14. All of them see one round of contributions:

* cell 0 (barrier), two units. One is paid by the device across, which hands over the half of its `A` landing buffer
  that this device writes and its whole `B` landing buffer. The other is paid by the device beside, which hands over the half of its
  `A` landing buffer that this device forwards into.
* cell 1 gives back this device's half of `A` once it is read; cell 2 is paid by the device across and hands over this
  device's own half of the `A` landing buffer holding that device's half of `A`.
* cell 3 gives back the half that was forwarded once it is read; cell 4 is paid by the device beside and hands over the
  other half of the `A` landing buffer, holding what the device beside received: the other half of the `A` of the device across
  from it.
* cells 5 to 8 give back the four strips of `B`; cells 9 to 12 are paid by the device across and hand over the strips of
  the `B` landing buffer holding that device's `B`.

A device lends half of its share of what it sends: it loads `A`, `B` and the received half while the copies read them.
Waiting is in the order of the levels: the barrier, then the copies from across, then the forwarded copy.
-/
module

public import proofs.«01_k».proof.Proof.KernelIdeal.Mesh
public import Idealize.ShloMosaic.Lib.Pipeline.Launch
public import Idealize.ShloMosaic.Lib.Pipeline.Kit

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the staging pipeline's rounds beside the exchange's, whose duties are named by a truth value. -/
abbrev UX : Type := URounds (GSem nD τ sig) Bool
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ)

/-! ## The cells -/

/-- The barrier semaphore of collective id 0. -/
abbrev barS : Sem sig := (SemArray.scalar (sig.barrier 0 rfl) : Sems sig S_).sem

/-- A device's cells as semaphores. -/
abbrev csem : Fin 13 → SemLoc sig
  | ⟨0, _⟩ => .reg barS
  | ⟨n + 1, h⟩ => .dma (⟨n + 3, Nat.add_lt_add_right (Nat.lt_of_succ_lt_succ h) 3⟩ : Fin 15)

/-- Cell `k` of device `c`. -/
abbrev kcell (ck : Dev nD × Fin 13) : GSem nD τ sig := ((ck.1 : Thread nD τ), csem ck.2)

/-- The DMA semaphores as the kernel names them, by number. -/
theorem sem_a0 : ((cc0_scratch2.slice (Rect.unit (s := S2) ![0] S1.size inb_S2_S1_0)).squeeze S_ squeezes_S1_S_).sem = (⟨3, by decide⟩ : Fin 15) := by decide
theorem sem_a1 : ((cc0_scratch2.slice (Rect.unit (s := S2) ![1] S1.size inb_S2_S1_1)).squeeze S_ squeezes_S1_S_).sem = (⟨4, by decide⟩ : Fin 15) := by decide
theorem sem_f0 : ((cc0_scratch3.slice (Rect.unit (s := S2) ![0] S1.size inb_S2_S1_0)).squeeze S_ squeezes_S1_S_).sem = (⟨5, by decide⟩ : Fin 15) := by decide
theorem sem_f1 : ((cc0_scratch3.slice (Rect.unit (s := S2) ![1] S1.size inb_S2_S1_1)).squeeze S_ squeezes_S1_S_).sem = (⟨6, by decide⟩ : Fin 15) := by decide
theorem sem_s0 : ((cc0_scratch4.slice (Rect.unit (s := S4) ![0] S1.size inb_S4_S1_0)).squeeze S_ squeezes_S1_S_).sem = (⟨7, by decide⟩ : Fin 15) := by decide
theorem sem_s1 : ((cc0_scratch4.slice (Rect.unit (s := S4) ![1] S1.size inb_S4_S1_1)).squeeze S_ squeezes_S1_S_).sem = (⟨8, by decide⟩ : Fin 15) := by decide
theorem sem_s2 : ((cc0_scratch4.slice (Rect.unit (s := S4) ![2] S1.size inb_S4_S1_2)).squeeze S_ squeezes_S1_S_).sem = (⟨9, by decide⟩ : Fin 15) := by decide
theorem sem_s3 : ((cc0_scratch4.slice (Rect.unit (s := S4) ![3] S1.size inb_S4_S1_3)).squeeze S_ squeezes_S1_S_).sem = (⟨10, by decide⟩ : Fin 15) := by decide
theorem sem_r0 : ((cc0_scratch5.slice (Rect.unit (s := S4) ![0] S1.size inb_S4_S1_0)).squeeze S_ squeezes_S1_S_).sem = (⟨11, by decide⟩ : Fin 15) := by decide
theorem sem_r1 : ((cc0_scratch5.slice (Rect.unit (s := S4) ![1] S1.size inb_S4_S1_1)).squeeze S_ squeezes_S1_S_).sem = (⟨12, by decide⟩ : Fin 15) := by decide
theorem sem_r2 : ((cc0_scratch5.slice (Rect.unit (s := S4) ![2] S1.size inb_S4_S1_2)).squeeze S_ squeezes_S1_S_).sem = (⟨13, by decide⟩ : Fin 15) := by decide
theorem sem_r3 : ((cc0_scratch5.slice (Rect.unit (s := S4) ![3] S1.size inb_S4_S1_3)).squeeze S_ squeezes_S1_S_).sem = (⟨14, by decide⟩ : Fin 15) := by decide

/-- What a copied half of `A`, and a copied strip of `B`, counts on a DMA semaphore. -/
def NA : ℕ := (paM.slice (halfR (0 : Fin 4)) (fun _ => rfl)).view.dmaCredit
def NB : ℕ := (pbM.slice (Rect.unit (s := S1024x2048) ![0, 0] S1024x512.size inb_S1024x2048_S1024x512_0_0) (fun _ => rfl)).view.dmaCredit
theorem NA_pos : 0 < NA := View.dmaCredit_pos _ (by decide)
theorem NB_pos : 0 < NB := View.dmaCredit_pos _ (by decide)

/-! ## Contents -/

/-- Device `c`'s blocks of `A` and `B` as staged. -/
def xa (c : Dev nD) : S2048x1024.Idx → Elt F .bf16 := (win0_0.blk (0 : Fin 1)).view.read (Elt F) (m ((c : Thread nD τ).loc main_arg0))
def xb (c : Dev nD) : S1024x2048.Idx → Elt F .bf16 := (win0_1.blk (0 : Fin 1)).view.read (Elt F) (m ((c : Thread nD τ).loc main_arg1))

/-- Some elements of the staged `A`, of the staged `B`, of the `A` landing buffer and of the `B` landing buffer of device
    `c`, held at a share with the contents given. -/
def aPts (c : Dev nD) (S : Finset S2048x1024.Idx) (q : PosShare TreeShare) (f : S2048x1024.Idx → Elt F .bf16) : sProp 𝕄 :=
  ((c : Thread nD τ).loc cc0_stg0_0) ↦[S]{q} f
def bPts (c : Dev nD) (S : Finset S1024x2048.Idx) (q : PosShare TreeShare) (f : S1024x2048.Idx → Elt F .bf16) : sProp 𝕄 :=
  ((c : Thread nD τ).loc cc0_stg1_0) ↦[S]{q} f
def paPts (c : Dev nD) (S : Finset S2048x1024.Idx) (q : PosShare TreeShare) (f : S2048x1024.Idx → Elt F .bf16) : sProp 𝕄 :=
  ((c : Thread nD τ).loc cc0_scratch0) ↦[S]{q} f
def pbPts (c : Dev nD) (S : Finset S1024x2048.Idx) (q : PosShare TreeShare) (f : S1024x2048.Idx → Elt F .bf16) : sProp 𝕄 :=
  ((c : Thread nD τ).loc cc0_scratch1) ↦[S]{q} f

omit [FloatOps F] in
instance aPts_storable (c : Dev nD) (S q f) : BI.Storable (upEmb : UEmb _ 𝕄) (aPts (F := F) c S q f) := by unfold aPts; infer_instance
omit [FloatOps F] in
instance bPts_storable (c : Dev nD) (S q f) : BI.Storable (upEmb : UEmb _ 𝕄) (bPts (F := F) c S q f) := by unfold bPts; infer_instance
omit [FloatOps F] in
instance paPts_storable (c : Dev nD) (S q f) : BI.Storable (upEmb : UEmb _ 𝕄) (paPts (F := F) c S q f) := by unfold paPts; infer_instance
omit [FloatOps F] in
instance pbPts_storable (c : Dev nD) (S q f) : BI.Storable (upEmb : UEmb _ 𝕄) (pbPts (F := F) c S q f) := by unfold pbPts; infer_instance

/-! ## The schedule -/

/-- What the device across hands device `c` with its barrier unit: its own landing room for what `c` sends it. -/
def acrossPay (c : Dev nD) : sProp 𝕄 :=
  iprop((∃ f, paPts (across c) (halfSet c) fullShare f) ∗ ∃ f, pbPts (across c) Finset.univ fullShare f)
/-- What the device beside hands device `c`: the room for the half that `c` forwards. -/
def besidePay (c : Dev nD) : sProp 𝕄 := iprop(∃ f, paPts (beside c) (halfSet c) fullShare f)

/-- What each DMA semaphore of device `c`, by number, hands over. -/
def dmaPay (c : Dev nD) : ℕ → sProp 𝕄
  | 3 => aPts c (halfSet c) fullShare.right (xa m c)
  | 4 => paPts c (halfSet c) fullShare (xa m (across c))
  | 5 => paPts c (halfSet c) fullShare.right (xa m (across c))
  | 6 => paPts c (halfSet (beside c)) fullShare (xa m (across (beside c)))
  | 7 => bPts c (stripSet 0) fullShare.right (xb m c)
  | 8 => bPts c (stripSet 1) fullShare.right (xb m c)
  | 9 => bPts c (stripSet 2) fullShare.right (xb m c)
  | 10 => bPts c (stripSet 3) fullShare.right (xb m c)
  | 11 => pbPts c (stripSet 0) fullShare (xb m (across c))
  | 12 => pbPts c (stripSet 1) fullShare (xb m (across c))
  | 13 => pbPts c (stripSet 2) fullShare (xb m (across c))
  | 14 => pbPts c (stripSet 3) fullShare (xb m (across c))
  | _ => iprop(emp)

instance dmaPay_storable (c : Dev nD) (n : ℕ) : BI.Storable (upEmb : UEmb _ 𝕄) (dmaPay (F := F) m c n) := by
  unfold dmaPay; split <;> infer_instance

/-- The exchange: one round, round 0. -/
def sched : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma q => if q.val < 7 then NA else NB
  payload g _ d := match g.2 with
    | .reg _ => if d then besidePay g.1.1 else acrossPay g.1.1
    | .dma q => dmaPay m g.1.1 q.val
  amount_pos g _ _ _ := by
    rcases g with ⟨t, s⟩
    cases s with
    | reg _ => exact Nat.one_pos
    | dma q => dsimp only; split <;> [exact NA_pos; exact NB_pos]

instance sched_payload_storable (g : GSem nD τ sig) (r : ℕ) (d : Bool) :
    BI.Storable (upEmb : UEmb _ 𝕄) ((sched (F := F) m).payload g r d) := by
  rcases g with ⟨t, s⟩
  cases s with
  | reg _ =>
    show BI.Storable upEmb (if d then besidePay t.1 else acrossPay t.1)
    unfold besidePay acrossPay
    split <;> infer_instance
  | dma q => exact dmaPay_storable m t.1 q.val

section Tables
variable (c : Dev nD)

/-- What one contribution to DMA cell `n + 1` counts. -/
abbrev amt (n : ℕ) : ℕ := if n + 3 < 7 then NA else NB

omit [FloatOps F] in
theorem duties_bar : (sched (F := F) m).duties (kcell (c, 0)) 0 = Finset.univ := rfl
omit [FloatOps F] in
theorem duties_dma (n : ℕ) (h : n + 1 < 13) : (sched (F := F) m).duties (kcell (c, ⟨n + 1, h⟩)) 0 = {false} := rfl
omit [FloatOps F] in
theorem duties_later (g : GSem nD τ sig) : ∀ r, 1 ≤ r → (sched (F := F) m).duties g r = ∅ :=
  fun r hr => by dsimp only [sched]; rw [if_neg fun h => by omega]
omit [FloatOps F] in
theorem amount_bar (d : Bool) : (sched (F := F) m).amount (kcell (c, 0)) 0 d = 1 := rfl
omit [FloatOps F] in
theorem amount_dma (n : ℕ) (h : n + 1 < 13) (d : Bool) : (sched (F := F) m).amount (kcell (c, ⟨n + 1, h⟩)) 0 d = amt n := rfl
omit [FloatOps F] in
theorem expect_bar : (sched (F := F) m).expect (kcell (c, 0)) 0 = 2 := by
  unfold Schedule.expect Schedule.amountOf
  rw [duties_bar, Finset.sum_congr rfl fun d _ => amount_bar m c d, Finset.sum_const, Finset.card_univ, Fintype.card_bool, smul_eq_mul]
omit [FloatOps F] in
theorem expect_dma (n : ℕ) (h : n + 1 < 13) : (sched (F := F) m).expect (kcell (c, ⟨n + 1, h⟩)) 0 = amt n := by
  unfold Schedule.expect Schedule.amountOf; rw [duties_dma, Finset.sum_singleton, amount_dma]
omit [FloatOps F] in
theorem payload_across : (sched (F := F) m).payload (kcell (c, 0)) 0 false = acrossPay c := rfl
omit [FloatOps F] in
theorem payload_beside : (sched (F := F) m).payload (kcell (c, 0)) 0 true = besidePay c := rfl
omit [FloatOps F] in
theorem payload_dma (n : ℕ) (h : n + 1 < 13) (d : Bool) : (sched (F := F) m).payload (kcell (c, ⟨n + 1, h⟩)) 0 d = dmaPay m c (n + 3) := rfl
omit [FloatOps F] in
/-- All of the barrier cell's round: what the two neighbours hand over. -/
theorem rest_bar : bigSep ((sched (F := F) m).duties (kcell (c, 0)) 0 \ ∅) (fun d => (sched (F := F) m).payload (kcell (c, 0)) 0 d)
    = iprop(acrossPay c ∗ besidePay c) := by
  rw [Finset.sdiff_empty, duties_bar, bigSep_univ_eq_bigSepL [false, true] (by decide) (by decide), bigSepL_cons_cons, bigSepL_singleton,
    payload_across, payload_beside]
  rfl
omit [FloatOps F] in
/-- All of a DMA cell's round. -/
theorem rest_dma (n : ℕ) (h : n + 1 < 13) :
    bigSep ((sched (F := F) m).duties (kcell (c, ⟨n + 1, h⟩)) 0 \ ∅) (fun d => (sched (F := F) m).payload (kcell (c, ⟨n + 1, h⟩)) 0 d) = dmaPay m c (n + 3) := by
  rw [Finset.sdiff_empty, duties_dma, bigSep_singleton, payload_dma]

end Tables

/-! ## What a device owes at launch, and the levels -/

/-- What is still owed after each payment, the last payment's first: the forwarded half, the strips of `B` in descending
    order, the half of `A`, the two barrier units. -/
def oF (c : Dev nD) : CellTallies nD τ sig Unit := tallyAt (kcell (beside c, 4)) () NA
def o3 (c : Dev nD) : CellTallies nD τ sig Unit := oF c + tallyAt (kcell (across c, 12)) () NB
def o2 (c : Dev nD) : CellTallies nD τ sig Unit := o3 c + tallyAt (kcell (across c, 11)) () NB
def o1 (c : Dev nD) : CellTallies nD τ sig Unit := o2 c + tallyAt (kcell (across c, 10)) () NB
def o0 (c : Dev nD) : CellTallies nD τ sig Unit := o1 c + tallyAt (kcell (across c, 9)) () NB
def oA (c : Dev nD) : CellTallies nD τ sig Unit := o0 c + tallyAt (kcell (across c, 2)) () NA
def oY (c : Dev nD) : CellTallies nD τ sig Unit := oA c + tallyAt (kcell (beside c, 0)) () 1
def O₀ (c : Dev nD) : CellTallies nD τ sig Unit := oY c + tallyAt (kcell (across c, 0)) () 1

def L (g : GSem nD τ sig) : Finset Unit := if g.1.2 = .tc then {()} else ∅
/-- The staging cells and the cells that give back a source are at level 0, the barrier at 1, what comes from across at 2, what is
    forwarded at 3. -/
def lv (g : GSem nD τ sig) (_ : Unit) : ℕ := match g.2 with
  | .reg _ => 1
  | .dma q => if q.val = 4 ∨ 11 ≤ q.val then 2 else if q.val = 6 then 3 else 0

theorem L_of_ne (g : GSem nD τ sig) (h : g.1.2 ≠ .tc) : L g = ∅ := if_neg h
theorem L_tc (c : Dev nD) (sm : SemLoc sig) : L ((c : Thread nD τ), sm) = {()} := if_pos rfl

/-- Everything owed in `O` is owed to a cell above level `n`. -/
def Above (n : ℕ) (O : CellTallies nD τ sig Unit) : Prop := ∀ g u, 0 < O g u → g.1.2 = .tc ∧ n < lv g u

theorem above_tally (n : ℕ) (d : Dev nD) (k : Fin 13) (x : ℕ) (h : n < lv (kcell (d, k)) ()) : Above n (tallyAt (kcell (d, k)) () x) := by
  intro g u hg
  rw [tallyAt_apply] at hg
  by_cases h' : g = kcell (d, k) ∧ u = ()
  · obtain ⟨rfl, rfl⟩ := h'; exact ⟨rfl, h⟩
  · rw [if_neg h'] at hg; exact absurd hg (Nat.lt_irrefl 0)

theorem above_add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0

theorem above_oF (c : Dev nD) {n : ℕ} (h : n < 3) : Above n (oF c) := above_tally _ _ _ _ h
theorem above_oA (c : Dev nD) {n : ℕ} (h : n < 2) : Above n (oA c) := by
  unfold oA o0 o1 o2 o3
  repeat' apply above_add
  · exact above_oF c (by omega)
  all_goals exact above_tally _ _ _ _ h
theorem above_O₀ (c : Dev nD) : Above 0 (O₀ c) := by
  unfold O₀ oY
  refine above_add (above_add (above_oA c (by decide)) ?_) ?_ <;> exact above_tally _ _ _ _ Nat.one_pos
theorem above_zero (n : ℕ) : Above n (0 : CellTallies nD τ sig Unit) := fun g u h => absurd h (Nat.lt_irrefl 0)

omit [FloatOps F] in
/-- A device may wait on a cell below everything it owes. -/
theorem mayWait_of {c : Dev nD} {sm : SemLoc sig} {n : ℕ} {O : CellTallies nD τ sig Unit} (hs : lv ((c : Thread nD τ), sm) () ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

/-! ## The exchange's shared records -/

/-- Every cell's invariant, at the names `K`, and that every cell has reached round 0. -/
def records (K : Dev nD × Fin 13 → ℕ) : sProp 𝕄 :=
  iprop((bigSep Finset.univ fun ck : Dev nD × Fin 13 => cellInv ER (sched m) (K ck) (kcell ck))
    ∗ bigSep Finset.univ fun ck : Dev nD × Fin 13 => reached ER (kcell ck) 0)

instance records_persistent (K : Dev nD × Fin 13 → ℕ) : BI.Persistent (records (F := F) m K) := by unfold records; infer_instance

omit [FloatOps F] in
theorem inv_at (K : Dev nD × Fin 13 → ℕ) (ck : Dev nD × Fin 13) : records (F := F) m K ⊢ cellInv ER (sched m) (K ck) (kcell ck) := by
  unfold records; exact sep_elim_left.trans (bigSep_elim (Finset.mem_univ ck))
omit [FloatOps F] in
theorem reached_at (K : Dev nD × Fin 13 → ℕ) (ck : Dev nD × Fin 13) : records (F := F) m K ⊢ reached ER (kcell ck) 0 := by
  unfold records; exact sep_elim_right.trans (bigSep_elim (Finset.mem_univ ck))

/-- The duties by number: 0 and 1 are the barrier's, `k + 1` is cell `k`'s. -/
abbrev tokOf (cj : Dev nD × Fin 14) : GSem nD τ sig × ℕ × Bool := match cj.2 with
  | ⟨0, _⟩ => (kcell (cj.1, 0), 0, false)
  | ⟨1, _⟩ => (kcell (cj.1, 0), 0, true)
  | ⟨n + 2, h⟩ => (kcell (cj.1, ⟨n + 1, Nat.lt_of_succ_lt_succ h⟩), 0, false)

/-- Whose cell duty `j` of a device is paid to: the barrier unit 0 and what is received from across go across, the barrier unit 1 and
    the forwarded half go beside, what gives back a source stays. -/
abbrev route : Fin 14 → (Dev nD ≃ Dev nD)
  | ⟨0, _⟩ => acrossE
  | ⟨1, _⟩ => besideE
  | ⟨3, _⟩ => acrossE
  | ⟨5, _⟩ => besideE
  | ⟨n, _⟩ => if 10 ≤ n then acrossE else Equiv.refl _

/-- The token of duty `j` that device `c` pays. -/
abbrev payTok (c : Dev nD) (j : Fin 14) : sProp 𝕄 :=
  dutyTok ER (tokOf (route j c, j)).1 (tokOf (route j c, j)).2.1 (tokOf (route j c, j)).2.2

/-- What device `c`'s body starts with of the exchange's ghost state: the records, its positions, the tokens it pays. -/
def ghost (K : Dev nD × Fin 13 → ℕ) (c : Dev nD) : sProp 𝕄 :=
  iprop(records m K ∗ (bigSep Finset.univ fun k : Fin 13 => atPos ER (kcell (c, k)) 0 ∅ 0)
    ∗ bigSep Finset.univ fun j : Fin 14 => payTok c j)

/-- The credit a device is launched with: what its neighbours owe its cells. -/
def credits (c : Dev nD) : sProp 𝕄 :=
  iprop(cred (tallyAt (kcell (c, 0)) () 2) ∗ cred (tallyAt (kcell (c, 2)) () NA) ∗ cred (tallyAt (kcell (c, 4)) () NA)
    ∗ cred (tallyAt (kcell (c, 9)) () NB) ∗ cred (tallyAt (kcell (c, 10)) () NB) ∗ cred (tallyAt (kcell (c, 11)) () NB)
    ∗ cred (tallyAt (kcell (c, 12)) () NB))

/-- What a device's body starts with besides its buffers. -/
def start (c : Dev nD) : sProp 𝕄 := iprop((∃ K, ghost m K c) ∗ credits c ∗ levAts L lv)

omit [FloatOps F] in
theorem bigSep_fin13 (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
omit [FloatOps F] in
theorem bigSep_fin14 (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

end Cert.KernelIdeal.Exchange

end
-- ==== Proof.KernelIdeal.Moves.lean ====
/-
# One rule per kind of step of the exchange

A signal, a copy to another device and a wait, each stated at the exchange's cells: what the step takes, what it gives back.
-/
module

public import proofs.«01_k».proof.Proof.KernelIdeal.Schedule

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c` owes `O`, whatever it has waited for. -/
def ow (c : Dev nD) (O : CellTallies nD τ sig Unit) : sProp 𝕄 := iprop(∃ W, owes (c : Thread nD τ) O W)

variable (K : Dev nD × Fin 13 → ℕ)

/-- The wait for all of a DMA cell's round: its payload, the cell left at round 1. -/
theorem wait_dma (c : Dev nD)
    {α : Type} {Q : α → sProp 𝕄} {k : PUnit → Prog (TpuEff nD τ sig (Elt F) Λ₀ .tc) α}
    (n : ℕ) (h : n + 1 < 13) {w : TpuEff nD τ sig (Elt F) Λ₀ .tc PUnit} {am : ℕ}
    (hw : ∀ Kf : PUnit → sProp 𝕄, wpE (defs₀ (F := F)) 𝒱₀ (c : Thread nD τ) none Set.univ w Kf
      = waitSpec (c : Thread nD τ) Set.univ (csem ⟨n + 1, h⟩) am Kf)
    (ham : am = amt n) (l : ℕ) {O : CellTallies nD τ sig Unit} (hl : lv (kcell (c, ⟨n + 1, h⟩)) () ≤ l) (hO : Above l O) :
    iprop(records m K ∗ levAts L lv ∗ cred (tallyAt (kcell (c, ⟨n + 1, h⟩)) () (amt n)) ∗ ow c O ∗ atPos ER (kcell (c, ⟨n + 1, h⟩)) 0 ∅ 0)
      ⊢ iprop(((ow c O ∗ atPos ER (kcell (c, ⟨n + 1, h⟩)) 1 ∅ 0 ∗ dmaPay m c (n + 3))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst ham
  unfold ow
  iintro ⟨#HR, #Hlev, Hc, ⟨%W, HO⟩, Hat⟩ Hk
  iapply (Rounds.wp_wait_rest_token 𝒱₀ ER (sched m) (c : Thread nD τ) none (κ := K (c, ⟨n + 1, h⟩)) hw (Set.mem_univ _) () (O := O) (W := W)
      (R := 0) (m := 0) (T := ∅) ((Nat.zero_add _).trans (expect_dma m c n h).symm)) $$ [Hc HO Hat]
  · isplitr; · iapply (inv_at m K (c, ⟨n + 1, h⟩)); iexact HR
    isplitl [Hc]; · iexact Hc
    isplitl [HO]; · iexact HO
    isplitr; · iapply (mayWait_of hl hO); iexact Hlev
    iexact Hat
  iintro ⟨HO, Hat, -, Hpay⟩
  ihave Hpay := (Entails.of_eq (rest_dma m c n h)) $$ Hpay
  iapply Hk
  isplitl [HO]; · iexists _; iexact HO
  isplitl [Hat] <;> iassumption

/-- The wait for both units of the barrier: the room that both neighbours hand over. -/
theorem wait_bar (c : Dev nD)
    {α : Type} {Q : α → sProp 𝕄} {k : PUnit → Prog (TpuEff nD τ sig (Elt F) Λ₀ .tc) α}
    {w : TpuEff nD τ sig (Elt F) Λ₀ .tc PUnit} {am : ℕ}
    (hw : ∀ Kf : PUnit → sProp 𝕄, wpE (defs₀ (F := F)) 𝒱₀ (c : Thread nD τ) none Set.univ w Kf
      = waitSpec (c : Thread nD τ) Set.univ (csem 0) am Kf) (ham : am = 2) :
    iprop(records m K ∗ levAts L lv ∗ cred (tallyAt (kcell (c, 0)) () 2) ∗ ow c (oA c) ∗ atPos ER (kcell (c, 0)) 0 ∅ 0)
      ⊢ iprop(((ow c (oA c) ∗ atPos ER (kcell (c, 0)) 1 ∅ 0 ∗ acrossPay c ∗ besidePay c)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst ham
  unfold ow
  iintro ⟨#HR, #Hlev, Hc, ⟨%W, HO⟩, Hat⟩ Hk
  iapply (Rounds.wp_wait_rest_token 𝒱₀ ER (sched m) (c : Thread nD τ) none (κ := K (c, 0)) hw (Set.mem_univ _) () (O := oA c) (W := W)
      (R := 0) (m := 0) (T := ∅) ((Nat.zero_add _).trans (expect_bar m c).symm)) $$ [Hc HO Hat]
  · isplitr; · iapply (inv_at m K (c, 0)); iexact HR
    isplitl [Hc]; · iexact Hc
    isplitl [HO]; · iexact HO
    isplitr; · iapply (mayWait_of (show lv (kcell (c, 0)) () ≤ 1 from Nat.le_refl 1) (above_oA c (by decide))); iexact Hlev
    iexact Hat
  iintro ⟨HO, Hat, -, Hpay⟩
  ihave Hpay := (Entails.of_eq (rest_bar m c)) $$ Hpay
  iapply Hk
  isplitl [HO]; · iexists _; iexact HO
  isplitl [Hat] <;> iassumption

/-- A signal to a neighbour's barrier cell: duty `d` there, with its payload. -/
theorem signal_bar (c e : Dev nD)
    {α : Type} {Q : α → sProp 𝕄} {k : PUnit → Prog (TpuEff nD τ sig (Elt F) Λ₀ .tc) α}
    (d : Bool) {am : ℕ} (ham : am = 1) {O₁ : CellTallies nD τ sig Unit} (O : CellTallies nD τ sig Unit)
    (hO : O₁ = O + tallyAt (kcell (e, 0)) () 1) :
    iprop(records m K ∗ ow c O₁ ∗ dutyTok ER (kcell (e, 0)) 0 d ∗ (sched m).payload (kcell (e, 0)) 0 d)
      ⊢ iprop((ow c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (e : Thread nD τ) barS am) k) Q) := by
  subst ham
  unfold ow
  iintro ⟨#HR, ⟨%W, HO⟩, Ht, Hp⟩ Hk
  iapply (Rounds.wp_signal 𝒱₀ ER (sched m) (c : Thread nD τ) none (dst := (e : Thread nD τ)) (sem := barS) (κ := K (e, 0)) (r := 0)
      (d := d) (Finset.mem_univ d)
      (amount_bar m e d) () O hO (W := W)) $$ [HO Ht Hp]
  · isplitr; · iapply (inv_at m K (e, 0)); iexact HR
    isplitl [HO]; · iexact HO
    isplitl [Ht]; · iexact Ht
    isplitl [Hp]; · iexact Hp
    iapply (reached_at m K (e, 0)); iexact HR
  iintro HO
  iapply Hk
  iexists _; iexact HO

/-! ## The three kinds of copy -/

omit [FloatOps F] in
/-- A copy between windows at one rectangle of two buffers of one shape leaves the source's elements in the window. -/
theorem landed_half (r : Rect S2048x1024) (hr : ∀ a, r.stride a = 1) (fd fs : S2048x1024.Idx → Elt F .bf16) (i : S2048x1024.Idx) (hi : i ∈ r.set) :
    (paM.slice r hr).view.write (Elt F) fd ((aM.slice r hr).view.read (Elt F) fs) Finset.univ i = fs i := by
  rw [← Rect.map_emb_univ] at hi
  obtain ⟨x, -, rfl⟩ := Finset.mem_map.mp hi
  exact View.write_emb_of_mem (v := (paM.slice r hr).view) fd _ (Finset.mem_univ x)
omit [FloatOps F] in
theorem landed_forward (r : Rect S2048x1024) (hr : ∀ a, r.stride a = 1) (fd fs : S2048x1024.Idx → Elt F .bf16) (i : S2048x1024.Idx) (hi : i ∈ r.set) :
    (paM.slice r hr).view.write (Elt F) fd ((paM.slice r hr).view.read (Elt F) fs) Finset.univ i = fs i := by
  rw [← Rect.map_emb_univ] at hi
  obtain ⟨x, -, rfl⟩ := Finset.mem_map.mp hi
  exact View.write_emb_of_mem (v := (paM.slice r hr).view) fd _ (Finset.mem_univ x)
omit [FloatOps F] in
theorem landed_strip (r : Rect S1024x2048) (hr : ∀ a, r.stride a = 1) (fd fs : S1024x2048.Idx → Elt F .bf16) (i : S1024x2048.Idx) (hi : i ∈ r.set) :
    (pbM.slice r hr).view.write (Elt F) fd ((bM.slice r hr).view.read (Elt F) fs) Finset.univ i = fs i := by
  rw [← Rect.map_emb_univ] at hi
  obtain ⟨x, -, rfl⟩ := Finset.mem_map.mp hi
  exact View.write_emb_of_mem (v := (pbM.slice r hr).view) fd _ (Finset.mem_univ x)

omit [FloatOps F] in
theorem half_amount (c : Dev nD) (hr : ∀ a, (halfR c).stride a = 1) (q : Fin 15) : (paM.slice (halfR c) hr).view.amount (.dma q) = NA := rfl
omit [FloatOps F] in
theorem half_set_a (c : Dev nD) (hr : ∀ a, (halfR c).stride a = 1) : (aM.slice (halfR c) hr).view.set = halfSet c := View.set_slice_whole cc0_stg0_0 (halfR c)
omit [FloatOps F] in
theorem half_set_p (c : Dev nD) (hr : ∀ a, (halfR c).stride a = 1) : (paM.slice (halfR c) hr).view.set = halfSet c := View.set_slice_whole cc0_scratch0 (halfR c)

theorem half_pay_src (c : Dev nD) (hr : ∀ a, (halfR c).stride a = 1) :
    ((aM.slice (halfR c) hr).view.loc (c : Thread nD τ) ↦[(aM.slice (halfR c) hr).view.set]{fullShare.right} (xa m c)) ⊢ (sched (F := F) m).payload (kcell (c, 1)) 0 false := by
  rw [half_set_a]
  exact BI.Entails.refl _

theorem half_pay_dst (c : Dev nD) (hr : ∀ a, (halfR c).stride a = 1) (fd : S2048x1024.Idx → Elt F .bf16) :
    ((paM.slice (halfR c) hr).view.loc (across c : Thread nD τ) ↦[(paM.slice (halfR c) hr).view.set]{fullShare}
       ((paM.slice (halfR c) hr).view.write (Elt F) fd ((aM.slice (halfR c) hr).view.read (Elt F) (xa m c)) Finset.univ)) ⊢ (sched (F := F) m).payload (kcell (across c, 2)) 0 false := by
  rw [half_set_p]
  show _ ⊢ paPts (across c) (halfSet (across c)) fullShare (xa m (across (across c)))
  unfold paPts
  rw [across_across, halfSet_across]
  exact Entails.of_eq (pointsTo_congr fun i hi => landed_half (halfR c) hr fd (xa m c) i hi)
/-- The copy of this device's half of `A` to the device across. -/
theorem send_a (c n : Dev nD)
    {α : Type} {Q : α → sProp 𝕄} {k : PUnit → Prog (TpuEff nD τ sig (Elt F) Λ₀ .tc) α}
    (hn : n = across c) {hr hr' : ∀ a, (halfR c).stride a = 1}
    {hsc : (paM.slice (halfR c) hr' : Memref sig (Dev.tc n : Thread nD τ).2.kind .vmem S1024x1024 .bf16).view.ref.isScScratch = false}
    {hsrc : (aM.slice (halfR c) hr).view.WordExact} {hdst : (paM.slice (halfR c) hr').view.WordExact}
    {hsem : DmaTarget.Typed .vmem (.dma (⟨4, by decide⟩ : Fin 15)) (.remote (Dev.tc n : Thread nD τ) (paM.slice (halfR c) hr') (.dma (⟨3, by decide⟩ : Fin 15)) hsc)}
    (fd : S2048x1024.Idx → Elt F .bf16) :
    iprop(records m K ∗ aPts c (halfSet c) fullShare.right (xa m c) ∗ paPts (across c) (halfSet c) fullShare fd ∗ ow c (oA c)
        ∗ dutyTok ER (kcell (c, 1)) 0 false ∗ dutyTok ER (kcell (across c, 2)) 0 false)
      ⊢ iprop(((cred (tallyAt (kcell (c, 1)) () NA) ∗ ow c (o0 c)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (aM.slice (halfR c) hr) (.remote (Dev.tc n : Thread nD τ) (paM.slice (halfR c) hr') (.dma (⟨3, by decide⟩ : Fin 15)) hsc)
                (.dma (⟨4, by decide⟩ : Fin 15)) hsrc hdst hsem) k) Q) := by
  subst hn
  unfold ow
  iintro ⟨#HR, Ha, Hpa, ⟨%W, HO⟩, Ht, Ht'⟩ Hk
  iapply (Rounds.wp_send_pointsTo 𝒱₀ ER (sched m) (c : Thread nD τ) none (src := aM.slice (halfR c) hr) (dst := paM.slice (halfR c) hr') (c' := (across c : Thread nD τ))
    (sS := csem 1) (sem := csem 2)
    (κ₁ := K (c, 1)) (κ₂ := K (across c, 2))
    (r₁ := 0) (r₂ := 0) (d₁ := false) (d₂ := false) (q := fullShare.right) (fs := xa m c) (fd := fd)
    (Finset.mem_singleton_self false) (Finset.mem_singleton_self false)
    () () NA (half_amount c hr' _) (amount_dma m c 0 (Fin.isLt (1 : Fin 13)) false) (amount_dma m (across c) 1 (Fin.isLt (2 : Fin 13)) false) (o0 c) rfl (W := W)
    (half_pay_src m c hr) (half_pay_dst m c hr' fd)) $$ [Ha Hpa HO Ht Ht']
  · isplitr; · iapply (inv_at m K (c, 1)); iexact HR
    isplitr; · iapply (inv_at m K (across c, 2)); iexact HR
    isplitl [Ha]
    · unfold aPts; rw [half_set_a]; iexact Ha
    isplitl [Hpa]
    · unfold paPts; rw [half_set_p]; iexact Hpa
    isplitl [HO]; · iexact HO
    isplitl [Ht]; · iexact Ht
    isplitr; · iapply (reached_at m K (c, 1)); iexact HR
    isplitl [Ht']; · iexact Ht'
    iapply (reached_at m K (across c, 2)); iexact HR
  iintro ⟨Hc, HO⟩
  iapply Hk
  isplitl [Hc]; · iexact Hc
  iexists _; iexact HO

/-! The forwarded half -/

theorem forward_pay_src (c : Dev nD) (hr : ∀ a, (halfR c).stride a = 1) :
    ((paM.slice (halfR c) hr).view.loc (c : Thread nD τ) ↦[(paM.slice (halfR c) hr).view.set]{fullShare.right} (xa m (across c)))
      ⊢ (sched (F := F) m).payload (kcell (c, 3)) 0 false := by
  rw [half_set_p]
  exact BI.Entails.refl _

theorem forward_pay_dst (c : Dev nD) (hr : ∀ a, (halfR c).stride a = 1) (fd : S2048x1024.Idx → Elt F .bf16) :
    ((paM.slice (halfR c) hr).view.loc (beside c : Thread nD τ) ↦[(paM.slice (halfR c) hr).view.set]{fullShare}
        ((paM.slice (halfR c) hr).view.write (Elt F) fd ((paM.slice (halfR c) hr).view.read (Elt F) (xa m (across c))) Finset.univ))
      ⊢ (sched (F := F) m).payload (kcell (beside c, 4)) 0 false := by
  rw [half_set_p]
  show _ ⊢ paPts (beside c) (halfSet (beside (beside c))) fullShare (xa m (across (beside (beside c))))
  unfold paPts
  rw [beside_beside]
  exact Entails.of_eq (pointsTo_congr fun i hi => landed_forward (halfR c) hr fd (xa m (across c)) i hi)

/-- The copy of the received half to the device beside, which pays the last of what is owed. -/
theorem send_forward (c n : Dev nD)
    {α : Type} {Q : α → sProp 𝕄} {k : PUnit → Prog (TpuEff nD τ sig (Elt F) Λ₀ .tc) α}
    (hn : n = beside c) {hr hr' : ∀ a, (halfR c).stride a = 1}
    {hsc : (paM.slice (halfR c) hr' : Memref sig (Dev.tc n : Thread nD τ).2.kind .vmem S1024x1024 .bf16).view.ref.isScScratch = false}
    {hsrc : (paM.slice (halfR c) hr).view.WordExact} {hdst : (paM.slice (halfR c) hr').view.WordExact}
    {hsem : DmaTarget.Typed .vmem (.dma (⟨6, by decide⟩ : Fin 15)) (.remote (Dev.tc n : Thread nD τ) (paM.slice (halfR c) hr') (.dma (⟨5, by decide⟩ : Fin 15)) hsc)}
    (fd : S2048x1024.Idx → Elt F .bf16) :
    iprop(records m K ∗ paPts c (halfSet c) fullShare.right (xa m (across c)) ∗ paPts (beside c) (halfSet c) fullShare fd ∗ ow c (oF c)
        ∗ dutyTok ER (kcell (c, 3)) 0 false ∗ dutyTok ER (kcell (beside c, 4)) 0 false)
      ⊢ iprop(((cred (tallyAt (kcell (c, 3)) () NA) ∗ ow c 0) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (paM.slice (halfR c) hr) (.remote (Dev.tc n : Thread nD τ) (paM.slice (halfR c) hr') (.dma (⟨5, by decide⟩ : Fin 15)) hsc)
                (.dma (⟨6, by decide⟩ : Fin 15)) hsrc hdst hsem) k) Q) := by
  subst hn
  unfold ow
  iintro ⟨#HR, Ha, Hpa, ⟨%W, HO⟩, Ht, Ht'⟩ Hk
  iapply (Rounds.wp_send_pointsTo 𝒱₀ ER (sched m) (c : Thread nD τ) none (src := paM.slice (halfR c) hr) (dst := paM.slice (halfR c) hr') (c' := (beside c : Thread nD τ))
    (sS := csem 3) (sem := csem 4)
    (κ₁ := K (c, 3)) (κ₂ := K (beside c, 4))
    (r₁ := 0) (r₂ := 0) (d₁ := false) (d₂ := false) (q := fullShare.right) (fs := xa m (across c)) (fd := fd)
    (Finset.mem_singleton_self false) (Finset.mem_singleton_self false)
    () () NA (half_amount c hr' _) (amount_dma m c 2 (Fin.isLt (3 : Fin 13)) false) (amount_dma m (beside c) 3 (Fin.isLt (4 : Fin 13)) false) 0 (zero_add (oF c)).symm (W := W)
    (forward_pay_src m c hr) (forward_pay_dst m c hr' fd)) $$ [Ha Hpa HO Ht Ht']
  · isplitr; · iapply (inv_at m K (c, 3)); iexact HR
    isplitr; · iapply (inv_at m K (beside c, 4)); iexact HR
    isplitl [Ha]
    · unfold paPts; rw [half_set_p]; iexact Ha
    isplitl [Hpa]
    · rw [half_set_p]; unfold paPts; iexact Hpa
    isplitl [HO]; · iexact HO
    isplitl [Ht]; · iexact Ht
    isplitr; · iapply (reached_at m K (c, 3)); iexact HR
    isplitl [Ht']; · iexact Ht'
    iapply (reached_at m K (beside c, 4)); iexact HR
  iintro ⟨Hc, HO⟩
  iapply Hk
  isplitl [Hc]; · iexact Hc
  iexists _; iexact HO

/-! A strip of `B` -/

/-- Strip `j`'s two cells: what gives the strip back, and what the strip is received on. -/
abbrev sIx (j : Fin 4) : Fin 13 := ⟨j.val + 5, by omega⟩
abbrev rIx (j : Fin 4) : Fin 13 := ⟨j.val + 9, by omega⟩
abbrev sCell (c : Dev nD) (j : Fin 4) : GSem nD τ sig := kcell (c, sIx j)
abbrev rCell (c : Dev nD) (j : Fin 4) : GSem nD τ sig := kcell (c, rIx j)

omit [FloatOps F] in
theorem strip_amount_src (c : Dev nD) (j : Fin 4) : (sched (F := F) m).amount (sCell c j) 0 false = NB := by fin_cases j <;> rfl
omit [FloatOps F] in
theorem strip_amount_dst (c : Dev nD) (j : Fin 4) : (sched (F := F) m).amount (rCell c j) 0 false = NB := by fin_cases j <;> rfl
omit [FloatOps F] in
theorem strip_payload_src (c : Dev nD) (j : Fin 4) : (sched (F := F) m).payload (sCell c j) 0 false = bPts c (stripSet j) fullShare.right (xb m c) := by
  fin_cases j <;> rfl
omit [FloatOps F] in
theorem strip_payload_dst (c : Dev nD) (j : Fin 4) : (sched (F := F) m).payload (rCell c j) 0 false = pbPts c (stripSet j) fullShare (xb m (across c)) := by
  fin_cases j <;> rfl

theorem strip_pay_src (c : Dev nD) (j : Fin 4) (r : Rect S1024x2048) (hset : r.set = stripSet j) (hr : ∀ a, r.stride a = 1) :
    ((bM.slice r hr).view.loc (c : Thread nD τ) ↦[(bM.slice r hr).view.set]{fullShare.right} (xb m c))
      ⊢ (sched (F := F) m).payload (sCell c j) 0 false := by
  rw [strip_payload_src]
  unfold bPts
  rw [← hset, show (bM.slice r hr).view.set = r.set from View.set_slice_whole cc0_stg1_0 r]

theorem strip_pay_dst (c : Dev nD) (j : Fin 4) (r : Rect S1024x2048) (hset : r.set = stripSet j) (hr : ∀ a, r.stride a = 1) (fd : S1024x2048.Idx → Elt F .bf16) :
    ((pbM.slice r hr).view.loc (across c : Thread nD τ) ↦[(pbM.slice r hr).view.set]{fullShare}
        ((pbM.slice r hr).view.write (Elt F) fd ((bM.slice r hr).view.read (Elt F) (xb m c)) Finset.univ))
      ⊢ (sched (F := F) m).payload (rCell (across c) j) 0 false := by
  rw [strip_payload_dst]
  unfold pbPts
  rw [across_across, ← hset, show (pbM.slice r hr).view.set = r.set from View.set_slice_whole cc0_scratch1 r]
  exact Entails.of_eq (pointsTo_congr fun i hi => landed_strip r hr fd (xb m c) i hi)

/-- The copy of a strip of this device's `B` to the device across. -/
theorem send_strip (c n : Dev nD)
    {α : Type} {Q : α → sProp 𝕄} {k : PUnit → Prog (TpuEff nD τ sig (Elt F) Λ₀ .tc) α}
    (hn : n = across c) (j : Fin 4) (r : Rect S1024x2048) (hset : r.set = stripSet j) {hr hr' : ∀ a, r.stride a = 1}
    (qs qr : Fin 15) (hqs : qs = ⟨j.val + 7, by omega⟩) (hqr : qr = ⟨j.val + 11, by omega⟩) (hN : (pbM.slice r hr').view.dmaCredit = NB)
    {O₁ : CellTallies nD τ sig Unit} (O : CellTallies nD τ sig Unit) (hO : O₁ = O + tallyAt (rCell (across c) j) () NB)
    {hsc : (pbM.slice r hr' : Memref sig (Dev.tc n : Thread nD τ).2.kind .vmem r.shape .bf16).view.ref.isScScratch = false}
    {hsrc : (bM.slice r hr).view.WordExact} {hdst : (pbM.slice r hr').view.WordExact}
    {hsem : DmaTarget.Typed .vmem (.dma qr) (.remote (Dev.tc n : Thread nD τ) (pbM.slice r hr') (.dma qs) hsc)}
    (fd : S1024x2048.Idx → Elt F .bf16) :
    iprop(records m K ∗ bPts c (stripSet j) fullShare.right (xb m c) ∗ pbPts (across c) (stripSet j) fullShare fd ∗ ow c O₁
        ∗ dutyTok ER (sCell c j) 0 false ∗ dutyTok ER (rCell (across c) j) 0 false)
      ⊢ iprop(((cred (tallyAt (sCell c j) () NB) ∗ ow c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (bM.slice r hr) (.remote (Dev.tc n : Thread nD τ) (pbM.slice r hr') (.dma qs) hsc)
                (.dma qr) hsrc hdst hsem) k) Q) := by
  subst hn
  subst hqs hqr
  unfold ow
  iintro ⟨#HR, Ha, Hpa, ⟨%W, HO⟩, Ht, Ht'⟩ Hk
  iapply (Rounds.wp_send_pointsTo 𝒱₀ ER (sched m) (c : Thread nD τ) none (src := bM.slice r hr) (dst := pbM.slice r hr') (c' := (across c : Thread nD τ))
    (sS := csem (sIx j)) (sem := csem (rIx j))
    (κ₁ := K (c, sIx j)) (κ₂ := K (across c, rIx j))
    (r₁ := 0) (r₂ := 0) (d₁ := false) (d₂ := false) (q := fullShare.right) (fs := xb m c) (fd := fd)
    (Finset.mem_singleton_self false) (Finset.mem_singleton_self false)
    () () NB hN (strip_amount_src m c j) (strip_amount_dst m (across c) j) O hO (W := W)
    (strip_pay_src m c j r hset hr) (strip_pay_dst m c j r hset hr' fd)) $$ [Ha Hpa HO Ht Ht']
  · isplitr; · iapply (inv_at m K (c, sIx j)); iexact HR
    isplitr; · iapply (inv_at m K (across c, rIx j)); iexact HR
    isplitl [Ha]
    · rw [show (bM.slice r hr).view.set = r.set from View.set_slice_whole cc0_stg1_0 r, hset]; unfold bPts; iexact Ha
    isplitl [Hpa]
    · rw [show (pbM.slice r hr').view.set = r.set from View.set_slice_whole cc0_scratch1 r, hset]; unfold pbPts; iexact Hpa
    isplitl [HO]; · iexact HO
    isplitl [Ht]; · iexact Ht
    isplitr; · iapply (reached_at m K (c, sIx j)); iexact HR
    isplitl [Ht']; · iexact Ht'
    iapply (reached_at m K (across c, rIx j)); iexact HR
  iintro ⟨Hc, HO⟩
  iapply Hk
  isplitl [Hc]; · iexact Hc
  iexists _; iexact HO

end Cert.KernelIdeal.Exchange

end
-- ==== Proof.KernelIdeal.Access.lean ====
/-
# What the kernel computes, and its loads and stores

The result block of a device goes through nine stores. The first writes the product of the device's own two blocks. Each of the
other eight adds to one tile (one half of the rows, one strip of the columns) the product of a half of the `A` and a strip of
the `B` of the device across. The contents after each store are named here, `outAt` being the last.
-/
module

public import proofs.«01_k».proof.Proof.KernelIdeal.Moves

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## The windows the kernel loads and stores through -/

/-- The rows this device received from across, and the rows that were forwarded to it. -/
abbrev mineR (c : Dev nD) : Rect S2048x1024 := Rect.unit (s := S2048x1024) (k0_off3 c) S1024x1024.size (k0_off3_inb c)
abbrev theirsR (c : Dev nD) : Rect S2048x1024 := Rect.unit (s := S2048x1024) (k0_off5 c) S1024x1024.size (k0_off5_inb c)
/-- The four strips. -/
abbrev strip0R : Rect S1024x2048 := Rect.unit (s := S1024x2048) ![0, 0] S1024x512.size inb_S1024x2048_S1024x512_0_0
abbrev strip1R : Rect S1024x2048 := Rect.unit (s := S1024x2048) ![0, 512] S1024x512.size inb_S1024x2048_S1024x512_0_512
abbrev strip2R : Rect S1024x2048 := Rect.unit (s := S1024x2048) ![0, 1024] S1024x512.size inb_S1024x2048_S1024x512_0_1024
abbrev strip3R : Rect S1024x2048 := Rect.unit (s := S1024x2048) ![0, 1536] S1024x512.size inb_S1024x2048_S1024x512_0_1536
/-- The eight tiles, in the order they are stored: for each strip the received half's rows, then the forwarded half's. -/
abbrev tile1R (c : Dev nD) : Rect S2048x2048 := Rect.unit (s := S2048x2048) (k0_off2 c) S1024x512.size (k0_off2_inb c)
abbrev tile2R (c : Dev nD) : Rect S2048x2048 := Rect.unit (s := S2048x2048) (k0_off4 c) S1024x512.size (k0_off4_inb c)
abbrev tile3R (c : Dev nD) : Rect S2048x2048 := Rect.unit (s := S2048x2048) (k0_off6 c) S1024x512.size (k0_off6_inb c)
abbrev tile4R (c : Dev nD) : Rect S2048x2048 := Rect.unit (s := S2048x2048) (k0_off7 c) S1024x512.size (k0_off7_inb c)
abbrev tile5R (c : Dev nD) : Rect S2048x2048 := Rect.unit (s := S2048x2048) (k0_off8 c) S1024x512.size (k0_off8_inb c)
abbrev tile6R (c : Dev nD) : Rect S2048x2048 := Rect.unit (s := S2048x2048) (k0_off9 c) S1024x512.size (k0_off9_inb c)
abbrev tile7R (c : Dev nD) : Rect S2048x2048 := Rect.unit (s := S2048x2048) (k0_off10 c) S1024x512.size (k0_off10_inb c)
abbrev tile8R (c : Dev nD) : Rect S2048x2048 := Rect.unit (s := S2048x2048) (k0_off11 c) S1024x512.size (k0_off11_inb c)

omit [FloatOps F] in
theorem mineR_set (c : Dev nD) : (mineR c).set = halfSet c := by
  ext i; rw [mem_halfSet, Rect.mem_set_unit, off3_eq_off1, ← Rect.mem_set_unit (inb := k0_off1_inb c), mem_halfSet]
omit [FloatOps F] in
theorem theirsR_set (c : Dev nD) : (theirsR c).set = halfSet (beside c) := by
  ext i; rw [mem_halfSet, Rect.mem_set_unit, off5_eq_off1, ← Rect.mem_set_unit (inb := k0_off1_inb (beside c)), mem_halfSet]

/-! ## The contents -/

/-- The tile `r` of `f` read, and `f` with the tile `r` replaced by `w`. -/
abbrev getO (r : Rect S2048x2048) (f : S2048x2048.Idx → Elt F .f32) : r.shape.Idx → Elt F .f32 := (oM.access r).read (Elt F) f
abbrev putO (r : Rect S2048x2048) (f : S2048x2048.Idx → Elt F .f32) (w : r.shape.Idx → Elt F .f32) : S2048x2048.Idx → Elt F .f32 :=
  (oM.access r).write (Elt F) f w Finset.univ

/-- The half of the `A` from across that this device received, and the half forwarded to it. -/
abbrev mine (c : Dev nD) : Vec F S1024x1024 .bf16 := (paM.access (mineR c)).read (Elt F) (xa m (across c))
abbrev theirs (c : Dev nD) : Vec F S1024x1024 .bf16 := (paM.access (theirsR c)).read (Elt F) (xa m (across (beside c)))
/-- The strips of the `B` from across. -/
abbrev strip0 (c : Dev nD) : Vec F S1024x512 .bf16 := (pbM.access strip0R).read (Elt F) (xb m (across c))
abbrev strip1 (c : Dev nD) : Vec F S1024x512 .bf16 := (pbM.access strip1R).read (Elt F) (xb m (across c))
abbrev strip2 (c : Dev nD) : Vec F S1024x512 .bf16 := (pbM.access strip2R).read (Elt F) (xb m (across c))
abbrev strip3 (c : Dev nD) : Vec F S1024x512 .bf16 := (pbM.access strip3R).read (Elt F) (xb m (across c))

/-- The result block after the store of the device's own product, and after each tile. -/
def out0 (c : Dev nD) : S2048x2048.Idx → Elt F .f32 := k0_pay1 (xa m c) (xb m c)
def out1 (c : Dev nD) : S2048x2048.Idx → Elt F .f32 := putO (tile1R c) (out0 m c) (k0_pay2 (getO (tile1R c) (out0 m c)) (mine m c) (strip0 m c))
def out2 (c : Dev nD) : S2048x2048.Idx → Elt F .f32 := putO (tile2R c) (out1 m c) (k0_pay3 (getO (tile2R c) (out1 m c)) (theirs m c) (strip0 m c))
def out3 (c : Dev nD) : S2048x2048.Idx → Elt F .f32 := putO (tile3R c) (out2 m c) (k0_pay4 (getO (tile3R c) (out2 m c)) (mine m c) (strip1 m c))
def out4 (c : Dev nD) : S2048x2048.Idx → Elt F .f32 :=
  putO (tile4R c) (out3 m c) (k0_pay6 (k0_pay5 (getO (tile4R c) (out3 m c))) (theirs m c) (strip1 m c))
def out5 (c : Dev nD) : S2048x2048.Idx → Elt F .f32 := putO (tile5R c) (out4 m c) (k0_pay7 (getO (tile5R c) (out4 m c)) (mine m c) (strip2 m c))
def out6 (c : Dev nD) : S2048x2048.Idx → Elt F .f32 := putO (tile6R c) (out5 m c) (k0_pay8 (getO (tile6R c) (out5 m c)) (theirs m c) (strip2 m c))
def out7 (c : Dev nD) : S2048x2048.Idx → Elt F .f32 := putO (tile7R c) (out6 m c) (k0_pay9 (getO (tile7R c) (out6 m c)) (mine m c) (strip3 m c))
def outAt (c : Dev nD) : S2048x2048.Idx → Elt F .f32 := putO (tile8R c) (out7 m c) (k0_pay10 (getO (tile8R c) (out7 m c)) (theirs m c) (strip3 m c))

/-- The result block of device `c`, whole, with the contents given. -/
def oPts (c : Dev nD) (f : S2048x2048.Idx → Elt F .f32) : sProp 𝕄 := ((c : Thread nD τ).loc cc0_stg2_0) ↦{fullShare} f

/-! ## Loads and stores -/

section Ops

/-- The weakest precondition of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A program that only returns. -/
theorem ret_intro (c : Dev nD) {α : Type} (a : α) (Q : α → sProp 𝕄) : Q a ⊢ WP c (.ret a) Q := by
  unfold WP; rw [wp_ret]; iintro H; imodintro; iexact H

theorem load_o (c : Dev nD) {α : Type} {Q : α → sProp 𝕄} {r : Rect S2048x2048} {hl : oM.view.LoadsAt r.toLoadRect}
    {k : (r.shape.Idx → Elt F .f32) → Prog (TpuEff nD τ sig (Elt F) Λ₀ .tc) α} {f : S2048x2048.Idx → Elt F .f32} :
    oPts c f ⊢ iprop((oPts c f -∗ WP c (k (getO r f)) Q) -∗ WP c (.op (.load oM r.toLoadRect hl) k) Q) :=
  wp_load_rect (defs := defs₀ (F := F)) (Q := Q) (Γ := .empty) 𝒱₀ (c : Thread nD τ) none Set.univ (m := oM) (r := r) (hl := hl) (k := k) (S := Finset.univ) (q := fullShare) (f := f)
    (Finset.subset_univ _)

theorem store_o (c : Dev nD) {α : Type} {Q : α → sProp 𝕄} {r : Rect S2048x2048} {w : r.shape.Idx → Elt F .f32}
    {hx : (oM.access r).Stores Finset.univ} {hm : (Finset.univ : Finset r.shape.Idx) = Finset.univ ∨ ∀ a, r.stride a = 1}
    {k : PUnit → Prog (TpuEff nD τ sig (Elt F) Λ₀ .tc) α} {f : S2048x2048.Idx → Elt F .f32} :
    oPts c f ⊢ iprop((oPts c (putO r f w) -∗ WP c (k ⟨⟩) Q) -∗ WP c (.op (.store oM r w Finset.univ hx hm) k) Q) :=
  wp_store 𝒱₀ (c : Thread nD τ) none Set.univ (m := oM) (r := r) (Mk := Finset.univ) (Finset.subset_univ _)

theorem load_pa (c : Dev nD) {α : Type} {Q : α → sProp 𝕄} {r : Rect S2048x1024} {hl : paM.view.LoadsAt r.toLoadRect}
    {k : (r.shape.Idx → Elt F .bf16) → Prog (TpuEff nD τ sig (Elt F) Λ₀ .tc) α} (S : Finset S2048x1024.Idx) (hS : r.set = S)
    {q : PosShare TreeShare} {f : S2048x1024.Idx → Elt F .bf16} :
    paPts c S q f ⊢ iprop((paPts c S q f -∗ WP c (k ((paM.access r).read (Elt F) f)) Q) -∗ WP c (.op (.load paM r.toLoadRect hl) k) Q) :=
  wp_load_rect (defs := defs₀ (F := F)) (Q := Q) (Γ := .empty) 𝒱₀ (c : Thread nD τ) none Set.univ (m := paM) (r := r) (hl := hl) (k := k) (S := S) (q := q) (f := f)
    (le_of_eq ((View.set_slice_whole cc0_scratch0 r).trans hS))

theorem load_pb (c : Dev nD) {α : Type} {Q : α → sProp 𝕄} {r : Rect S1024x2048} {hl : pbM.view.LoadsAt r.toLoadRect}
    {k : (r.shape.Idx → Elt F .bf16) → Prog (TpuEff nD τ sig (Elt F) Λ₀ .tc) α} (S : Finset S1024x2048.Idx) (hS : r.set = S)
    {q : PosShare TreeShare} {f : S1024x2048.Idx → Elt F .bf16} :
    pbPts c S q f ⊢ iprop((pbPts c S q f -∗ WP c (k ((pbM.access r).read (Elt F) f)) Q) -∗ WP c (.op (.load pbM r.toLoadRect hl) k) Q) :=
  wp_load_rect (defs := defs₀ (F := F)) (Q := Q) (Γ := .empty) 𝒱₀ (c : Thread nD τ) none Set.univ (m := pbM) (r := r) (hl := hl) (k := k) (S := S) (q := q) (f := f)
    (le_of_eq ((View.set_slice_whole cc0_scratch1 r).trans hS))

omit [FloatOps F] in
theorem zero_pair : (![0, 0] : Fin 2 → ℕ) = fun _ => 0 := funext fun a => by fin_cases a <;> rfl

/-- The staged blocks are loaded whole. -/
theorem load_a (c : Dev nD) {α : Type} {Q : α → sProp 𝕄}
    {hl : aM.view.LoadsAt (Rect.unit (s := S2048x1024) ![0, 0] S2048x1024.size inb_S2048x1024_S2048x1024_0_0).toLoadRect}
    {k : (S2048x1024.Idx → Elt F .bf16) → Prog (TpuEff nD τ sig (Elt F) Λ₀ .tc) α} {q : PosShare TreeShare} {f : S2048x1024.Idx → Elt F .bf16} :
    aPts c Finset.univ q f ⊢ iprop((aPts c Finset.univ q f -∗ WP c (k f) Q)
      -∗ WP c (.op (.load aM (Rect.unit (s := S2048x1024) ![0, 0] S2048x1024.size inb_S2048x1024_S2048x1024_0_0).toLoadRect hl) k) Q) := by
  have h := wp_load (Q := Q) (defs := defs₀ (F := F)) 𝒱₀ (c : Thread nD τ) none Set.univ (m := aM) (hl := hl) (k := k) (S := Finset.univ) (q := q) (f := f) (Γ := .empty) (Finset.subset_univ _)
  rw [show aM.view.readAt (Elt F) (Rect.unit (s := S2048x1024) ![0, 0] S2048x1024.size inb_S2048x1024_S2048x1024_0_0).toLoadRect f = f from
    Memref.readAt_unit_zero (Elt F) cc0_stg0_0 zero_pair _ f] at h
  exact h

theorem load_b (c : Dev nD) {α : Type} {Q : α → sProp 𝕄}
    {hl : bM.view.LoadsAt (Rect.unit (s := S1024x2048) ![0, 0] S1024x2048.size inb_S1024x2048_S1024x2048_0_0).toLoadRect}
    {k : (S1024x2048.Idx → Elt F .bf16) → Prog (TpuEff nD τ sig (Elt F) Λ₀ .tc) α} {q : PosShare TreeShare} {f : S1024x2048.Idx → Elt F .bf16} :
    bPts c Finset.univ q f ⊢ iprop((bPts c Finset.univ q f -∗ WP c (k f) Q)
      -∗ WP c (.op (.load bM (Rect.unit (s := S1024x2048) ![0, 0] S1024x2048.size inb_S1024x2048_S1024x2048_0_0).toLoadRect hl) k) Q) := by
  have h := wp_load (Q := Q) (defs := defs₀ (F := F)) 𝒱₀ (c : Thread nD τ) none Set.univ (m := bM) (hl := hl) (k := k) (S := Finset.univ) (q := q) (f := f) (Γ := .empty) (Finset.subset_univ _)
  rw [show bM.view.readAt (Elt F) (Rect.unit (s := S1024x2048) ![0, 0] S1024x2048.size inb_S1024x2048_S1024x2048_0_0).toLoadRect f = f from
    Memref.readAt_unit_zero (Elt F) cc0_stg1_0 zero_pair _ f] at h
  exact h

omit [FloatOps F] in
/-- A store of the whole result block leaves what was stored. -/
theorem put_whole (f w : S2048x2048.Idx → Elt F .f32) :
    putO (Rect.unit (s := S2048x2048) ![0, 0] S2048x2048.size inb_S2048x2048_S2048x2048_0_0) f w = w :=
  Memref.write_access_unit_zero_univ (Elt F) cc0_stg2_0 zero_pair _ f w

/-- A store of the whole result block. -/
theorem store_whole (c : Dev nD) {α : Type} {Q : α → sProp 𝕄} (g : S2048x2048.Idx → Elt F .f32) {w : S2048x2048.Idx → Elt F .f32} (hg : w = g)
    {hx : (oM.access (Rect.unit (s := S2048x2048) ![0, 0] S2048x2048.size inb_S2048x2048_S2048x2048_0_0)).Stores Finset.univ} {hm}
    {k : PUnit → Prog (TpuEff nD τ sig (Elt F) Λ₀ .tc) α} {f : S2048x2048.Idx → Elt F .f32} :
    oPts c f ⊢ iprop((oPts c g -∗ WP c (k ⟨⟩) Q)
      -∗ WP c (.op (.store oM (Rect.unit (s := S2048x2048) ![0, 0] S2048x2048.size inb_S2048x2048_S2048x2048_0_0) w Finset.univ hx hm) k) Q) := by
  subst hg
  have h := store_o (F := F) (Q := Q) c (r := Rect.unit (s := S2048x2048) ![0, 0] S2048x2048.size inb_S2048x2048_S2048x2048_0_0) (w := w) (hx := hx) (hm := hm) (k := k) (f := f)
  rw [put_whole] at h
  exact h

/-- A store of a tile, the contents it leaves named. -/
theorem store_tile (c : Dev nD) {α : Type} {Q : α → sProp 𝕄} {r : Rect S2048x2048} {w : r.shape.Idx → Elt F .f32}
    {hx : (oM.access r).Stores Finset.univ} {hm : (Finset.univ : Finset r.shape.Idx) = Finset.univ ∨ ∀ a, r.stride a = 1}
    {k : PUnit → Prog (TpuEff nD τ sig (Elt F) Λ₀ .tc) α} (f g : S2048x2048.Idx → Elt F .f32) (hg : putO r f w = g) :
    oPts c f ⊢ iprop((oPts c g -∗ WP c (k ⟨⟩) Q) -∗ WP c (.op (.store oM r w Finset.univ hx hm) k) Q) := by
  subst hg; exact store_o c

end Ops

/-! ## What the waits on the copies of a half count -/

omit [FloatOps F] in
theorem half_credit_p (c : Dev nD) {hr : ∀ a, (halfR c).stride a = 1} (n : ℕ) (h : n + 3 < 7) : (paM.slice (halfR c) hr).view.dmaCredit = amt n :=
  (half_amount c hr 0).trans (if_pos h).symm
omit [FloatOps F] in
theorem half_credit_a (c : Dev nD) {hr : ∀ a, (halfR c).stride a = 1} (n : ℕ) (h : n + 3 < 7) : (aM.slice (halfR c) hr).view.dmaCredit = amt n :=
  (show (aM.slice (halfR c) hr).view.dmaCredit = NA from rfl).trans (if_pos h).symm
omit [FloatOps F] in
theorem strip1_credit_p {hr : ∀ a, strip1R.stride a = 1} (n : ℕ) (h : ¬ n + 3 < 7) : (pbM.slice strip1R hr).view.dmaCredit = amt n :=
  (show (pbM.slice strip1R hr).view.dmaCredit = NB from rfl).trans (if_neg h).symm
omit [FloatOps F] in
theorem strip2_credit_p {hr : ∀ a, strip2R.stride a = 1} (n : ℕ) (h : ¬ n + 3 < 7) : (pbM.slice strip2R hr).view.dmaCredit = amt n :=
  (show (pbM.slice strip2R hr).view.dmaCredit = NB from rfl).trans (if_neg h).symm
omit [FloatOps F] in
theorem strip3_credit_p {hr : ∀ a, strip3R.stride a = 1} (n : ℕ) (h : ¬ n + 3 < 7) : (pbM.slice strip3R hr).view.dmaCredit = amt n :=
  (show (pbM.slice strip3R hr).view.dmaCredit = NB from rfl).trans (if_neg h).symm
omit [FloatOps F] in
theorem strip0_credit_b {hr : ∀ a, strip0R.stride a = 1} (n : ℕ) (h : ¬ n + 3 < 7) : (bM.slice strip0R hr).view.dmaCredit = amt n :=
  (show (bM.slice strip0R hr).view.dmaCredit = NB from rfl).trans (if_neg h).symm
omit [FloatOps F] in
theorem strip1_credit_b {hr : ∀ a, strip1R.stride a = 1} (n : ℕ) (h : ¬ n + 3 < 7) : (bM.slice strip1R hr).view.dmaCredit = amt n :=
  (show (bM.slice strip1R hr).view.dmaCredit = NB from rfl).trans (if_neg h).symm
omit [FloatOps F] in
theorem strip2_credit_b {hr : ∀ a, strip2R.stride a = 1} (n : ℕ) (h : ¬ n + 3 < 7) : (bM.slice strip2R hr).view.dmaCredit = amt n :=
  (show (bM.slice strip2R hr).view.dmaCredit = NB from rfl).trans (if_neg h).symm
omit [FloatOps F] in
theorem strip3_credit_b {hr : ∀ a, strip3R.stride a = 1} (n : ℕ) (h : ¬ n + 3 < 7) : (bM.slice strip3R hr).view.dmaCredit = amt n :=
  (show (bM.slice strip3R hr).view.dmaCredit = NB from rfl).trans (if_neg h).symm

end Cert.KernelIdeal.Exchange

end
-- ==== Proof.KernelIdeal.Opening.lean ====
/-
# The first half of the kernel: the barrier, the copies out of the arguments, the device's own product

One theorem per printed part of the kernel, each over any continuation of the part.
-/
module

public import proofs.«01_k».proof.Proof.KernelIdeal.Access

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 13 → ℕ) (c : Dev nD)
variable {h0 : aM.IsWhole} {h1 : bM.IsWhole} {h2 : oM.IsWhole} {h3 : paM.IsWhole} {h4 : pbM.IsWhole}

/-- Part 1: both neighbours are told that this device is ready, with the room they copy into; then the device waits to be told the same. -/
theorem run_part1 {Q : (Σ' (d0 : Dev nD) (v2 : BitVec 32) (v5 : BitVec 32) (v6 : BitVec 32) (v7 : BitVec 32) (v17 : BitVec 32), BitVec 32) → sProp 𝕄} :
    iprop((records m K ∗ levAts L lv ∗ ow c (O₀ c) ∗ dutyTok ER (kcell (across c, 0)) 0 false ∗ dutyTok ER (kcell (beside c, 0)) 0 true
        ∗ (∃ f, paPts c Finset.univ fullShare f) ∗ (∃ f, pbPts c Finset.univ fullShare f)
        ∗ cred (tallyAt (kcell (c, 0)) () 2) ∗ atPos ER (kcell (c, 0)) 0 ∅ 0)
      ∗ (∀ v2 v5 v6 v7 v17 v19, (ow c (oA c) ∗ atPos ER (kcell (c, 0)) 1 ∅ 0 ∗ acrossPay c ∗ besidePay c) -∗ Q ⟨c, v2, v5, v6, v7, v17, v19⟩))
      ⊢ WP c (k0_part1 (F := F) aM h0 bM h1 oM h2 paM h3 pbM h4 cc0_scratch2 cc0_scratch3 cc0_scratch4 cc0_scratch5) Q := by
  simp only [k0_part1_eq_skeleton]; unfold k0_part1_skel
  simp only [semSignalWord, semWaitWord, Prog.lift, Prog.bind_op, Prog.bind_ret, Prog.pure_eq_ret, wp_deviceId]
  simp only [dev1_eq c, dev2_eq c]
  iintro ⟨⟨#HR, #Hlev, HO, Ht1, Ht2, ⟨%fa, Hpa⟩, ⟨%fb, Hpb⟩, Hc, Hat⟩, Hk⟩
  ihave Hpa := (show paPts c Finset.univ fullShare fa ⊢ iprop(paPts c (halfSet c) fullShare fa ∗ paPts c (halfSet (beside c)) fullShare fa) from by
      unfold paPts; rw [← univ_sdiff_halfSet]; exact (pointsTo_split_subset (Finset.subset_univ _)).1) $$ Hpa
  icases Hpa with ⟨Hpa1, Hpa2⟩
  iapply (signal_bar m K c (across c) false (by decide) (oY c) rfl) $$ [HO Ht1 Hpa1 Hpb]
  · isplitr; · iexact HR
    isplitl [HO]; · iexact HO
    isplitl [Ht1]; · iexact Ht1
    rw [payload_across]; unfold acrossPay; rw [across_across, halfSet_across]
    isplitl [Hpa1]
    · iexists fa; iexact Hpa1
    · iexists fb; iexact Hpb
  iintro HO
  iapply (signal_bar m K c (beside c) true (by decide) (oA c) rfl) $$ [HO Ht2 Hpa2]
  · isplitr; · iexact HR
    isplitl [HO]; · iexact HO
    isplitl [Ht2]; · iexact Ht2
    rw [payload_beside]; unfold besidePay; rw [beside_beside]
    iexists fa; iexact Hpa2
  iintro HO
  iapply (wait_bar m K c (wpE_semWait_eq 𝒱₀ (c : Thread nD τ) none Set.univ) (by decide)) $$ [HO Hc Hat]
  · isplitr; · iexact HR
    isplitr; · iexact Hlev
    isplitl [Hc]; · iexact Hc
    isplitl [HO] <;> iassumption
  iintro H
  rw [wp_ret]
  imodintro
  iapply Hk
  iexact H

/-- Part 2: the device's half of `A` and its first two strips of `B` go across. -/
theorem run_part2 {Q : PUnit → sProp 𝕄} (v5 v6 : BitVec 32) (fa : S2048x1024.Idx → Elt F .bf16) (fb : S1024x2048.Idx → Elt F .bf16) :
    iprop((records m K ∗ ow c (oA c)
        ∗ aPts c (halfSet c) fullShare.right (xa m c) ∗ paPts (across c) (halfSet c) fullShare fa
        ∗ bPts c (stripSet 0) fullShare.right (xb m c) ∗ pbPts (across c) (stripSet 0) fullShare fb
        ∗ bPts c (stripSet 1) fullShare.right (xb m c) ∗ pbPts (across c) (stripSet 1) fullShare fb
        ∗ dutyTok ER (kcell (c, 1)) 0 false ∗ dutyTok ER (kcell (across c, 2)) 0 false
        ∗ dutyTok ER (kcell (c, 5)) 0 false ∗ dutyTok ER (kcell (across c, 9)) 0 false
        ∗ dutyTok ER (kcell (c, 6)) 0 false ∗ dutyTok ER (kcell (across c, 10)) 0 false)
      ∗ ((ow c (o2 c) ∗ cred (tallyAt (kcell (c, 1)) () NA) ∗ cred (tallyAt (kcell (c, 5)) () NB) ∗ cred (tallyAt (kcell (c, 6)) () NB)) -∗ Q ⟨⟩))
      ⊢ WP c (k0_part2 (F := F) aM h0 bM h1 oM h2 paM h3 pbM h4 cc0_scratch2 cc0_scratch3 cc0_scratch4 cc0_scratch5 c v5 v6) Q := by
  simp only [k0_part2_eq_skeleton]; unfold k0_part2_skel
  simp only [Prog.lift, Prog.bind_op, Prog.bind_ret, Prog.pure_eq_ret]
  iintro ⟨⟨#HR, HO, Ha, Hpa, Hb0, Hpb0, Hb1, Hpb1, Ht1, Ht1', Ht2, Ht2', Ht3, Ht3'⟩, Hk⟩
  iapply (send_a m K c _ (dev3_eq c) fa) $$ [HO Ha Hpa Ht1 Ht1']
  · isplitr; · iexact HR
    isplitl [Ha]; · iexact Ha
    isplitl [Hpa]; · iexact Hpa
    isplitl [HO]; · iexact HO
    isplitl [Ht1] <;> iassumption
  iintro ⟨Hc1, HO⟩
  iapply (send_strip m K c _ (dev4_eq c) 0 strip0R rfl _ _ rfl rfl rfl (o1 c) rfl fb) $$ [HO Hb0 Hpb0 Ht2 Ht2']
  · isplitr; · iexact HR
    isplitl [Hb0]; · iexact Hb0
    isplitl [Hpb0]; · iexact Hpb0
    isplitl [HO]; · iexact HO
    isplitl [Ht2] <;> iassumption
  iintro ⟨Hc2, HO⟩
  iapply (send_strip m K c _ (dev5_eq c) 1 strip1R rfl _ _ rfl rfl rfl (o2 c) rfl fb) $$ [HO Hb1 Hpb1 Ht3 Ht3']
  · isplitr; · iexact HR
    isplitl [Hb1]; · iexact Hb1
    isplitl [Hpb1]; · iexact Hpb1
    isplitl [HO]; · iexact HO
    isplitl [Ht3] <;> iassumption
  iintro ⟨Hc3, HO⟩
  rw [wp_ret]
  imodintro
  iapply Hk
  isplitl [HO]; · iexact HO
  isplitl [Hc1]; · iexact Hc1
  isplitl [Hc2] <;> iassumption

/-- Part 3: the last two strips of `B` go across, the device's own product is stored, and its half of the `A` from across is waited for. -/
theorem run_part3 {Q : PUnit → sProp 𝕄} (v2 v5 v6 v7 : BitVec 32) (fb : S1024x2048.Idx → Elt F .bf16) :
    iprop((records m K ∗ levAts L lv ∗ ow c (o2 c)
        ∗ bPts c (stripSet 2) fullShare.right (xb m c) ∗ pbPts (across c) (stripSet 2) fullShare fb
        ∗ bPts c (stripSet 3) fullShare.right (xb m c) ∗ pbPts (across c) (stripSet 3) fullShare fb
        ∗ dutyTok ER (kcell (c, 7)) 0 false ∗ dutyTok ER (kcell (across c, 11)) 0 false
        ∗ dutyTok ER (kcell (c, 8)) 0 false ∗ dutyTok ER (kcell (across c, 12)) 0 false
        ∗ aPts c Finset.univ fullShare.left (xa m c) ∗ bPts c Finset.univ fullShare.left (xb m c) ∗ (∃ f, oPts c f)
        ∗ cred (tallyAt (kcell (c, 2)) () NA) ∗ atPos ER (kcell (c, 2)) 0 ∅ 0)
      ∗ ((ow c (oF c) ∗ cred (tallyAt (kcell (c, 7)) () NB) ∗ cred (tallyAt (kcell (c, 8)) () NB)
          ∗ aPts c Finset.univ fullShare.left (xa m c) ∗ bPts c Finset.univ fullShare.left (xb m c) ∗ oPts c (out0 m c)
          ∗ atPos ER (kcell (c, 2)) 1 ∅ 0 ∗ paPts c (halfSet c) fullShare (xa m (across c))) -∗ Q ⟨⟩))
      ⊢ WP c (k0_part3 (F := F) aM h0 bM h1 oM h2 paM h3 pbM h4 cc0_scratch2 cc0_scratch3 cc0_scratch4 cc0_scratch5 c v2 v5 v6 v7) Q := by
  simp only [k0_part3_eq_skeleton]; unfold k0_part3_skel
  simp only [Prog.lift, Prog.bind_op, Prog.bind_ret, Prog.pure_eq_ret]
  iintro ⟨⟨#HR, #Hlev, HO, Hb2, Hpb2, Hb3, Hpb3, Ht1, Ht1', Ht2, Ht2', Ha, Hb, ⟨%fo, Ho⟩, Hc, Hat⟩, Hk⟩
  iapply (send_strip m K c _ (dev6_eq c) 2 strip2R rfl _ _ rfl rfl rfl (o3 c) rfl fb) $$ [HO Hb2 Hpb2 Ht1 Ht1']
  · isplitr; · iexact HR
    isplitl [Hb2]; · iexact Hb2
    isplitl [Hpb2]; · iexact Hpb2
    isplitl [HO]; · iexact HO
    isplitl [Ht1] <;> iassumption
  iintro ⟨Hc1, HO⟩
  iapply (send_strip m K c _ (dev7_eq c) 3 strip3R rfl _ _ rfl rfl rfl (oF c) rfl fb) $$ [HO Hb3 Hpb3 Ht2 Ht2']
  · isplitr; · iexact HR
    isplitl [Hb3]; · iexact Hb3
    isplitl [Hpb3]; · iexact Hpb3
    isplitl [HO]; · iexact HO
    isplitl [Ht2] <;> iassumption
  iintro ⟨Hc2, HO⟩
  iapply (load_a c) $$ Ha
  iintro Ha
  iapply (load_b c) $$ Hb
  iintro Hb
  iapply (load_o c) $$ Ho
  iintro Ho
  iapply (store_whole c (out0 m c) rfl) $$ Ho
  iintro Ho
  iapply (wait_dma m K c 1 (Fin.isLt (2 : Fin 13)) (wpE_waitDma2_eq 𝒱₀ (c : Thread nD τ) none Set.univ) (half_credit_p c 1 (of_decide_eq_true rfl)) 2 (Nat.le_refl 2) (above_oF c (Nat.lt_succ_self 2)))
    $$ [HO Hc Hat]
  · isplitr; · iexact HR
    isplitr; · iexact Hlev
    isplitl [Hc]; · iexact Hc
    isplitl [HO] <;> iassumption
  iintro ⟨HO, Hat, Hpa⟩
  ihave Hpa := (show dmaPay m c (1 + 3) ⊢ paPts c (halfSet c) fullShare (xa m (across c)) from BI.Entails.refl _) $$ Hpa
  rw [wp_ret]
  imodintro
  iapply Hk
  isplitl [HO]; · iexact HO
  isplitl [Hc1]; · iexact Hc1
  isplitl [Hc2]; · iexact Hc2
  isplitl [Ha]; · iexact Ha
  isplitl [Hb]; · iexact Hb
  isplitl [Ho]; · iexact Ho
  isplitl [Hat]; · iexact Hat
  iexact Hpa

/-- Part 4: the received half is forwarded to the device beside, the first tile is added, and the forwarded half is waited for. -/
theorem run_part4 {Q : PUnit → sProp 𝕄} (v2 v5 v6 v7 v17 : BitVec 32) :
    iprop((records m K ∗ levAts L lv ∗ ow c (oF c) ∗ paPts c (halfSet c) fullShare (xa m (across c)) ∗ besidePay c
        ∗ dutyTok ER (kcell (c, 3)) 0 false ∗ dutyTok ER (kcell (beside c, 4)) 0 false
        ∗ cred (tallyAt (kcell (c, 9)) () NB) ∗ atPos ER (kcell (c, 9)) 0 ∅ 0
        ∗ cred (tallyAt (kcell (c, 4)) () NA) ∗ atPos ER (kcell (c, 4)) 0 ∅ 0 ∗ oPts c (out0 m c))
      ∗ ((ow c 0 ∗ cred (tallyAt (kcell (c, 3)) () NA) ∗ paPts c (halfSet c) fullShare.left (xa m (across c))
          ∗ paPts c (halfSet (beside c)) fullShare (xa m (across (beside c))) ∗ pbPts c (stripSet 0) fullShare (xb m (across c))
          ∗ atPos ER (kcell (c, 9)) 1 ∅ 0 ∗ atPos ER (kcell (c, 4)) 1 ∅ 0 ∗ oPts c (out1 m c)) -∗ Q ⟨⟩))
      ⊢ WP c (k0_part4 (F := F) aM h0 bM h1 oM h2 paM h3 pbM h4 cc0_scratch2 cc0_scratch3 cc0_scratch4 cc0_scratch5 c v2 v5 v6 v7 v17) Q := by
  simp only [k0_part4_eq_skeleton]; unfold k0_part4_skel
  simp only [Prog.lift, Prog.bind_op, Prog.bind_ret, Prog.pure_eq_ret]
  unfold besidePay
  iintro ⟨⟨#HR, #Hlev, HO, Hpa, ⟨%fp, Hroom⟩, Ht, Ht', Hc9, Hat9, Hc4, Hat4, Ho⟩, Hk⟩
  ihave Hpa := (show paPts c (halfSet c) fullShare (xa m (across c))
      ⊢ iprop(paPts c (halfSet c) fullShare.left (xa m (across c)) ∗ paPts c (halfSet c) fullShare.right (xa m (across c))) from by
      unfold paPts; exact (pointsTo_share (PosShare.mem_left_op_right fullShare)).1) $$ Hpa
  icases Hpa with ⟨Hpa, Hpa'⟩
  iapply (send_forward m K c _ (dev8_eq c) fp) $$ [HO Hpa' Hroom Ht Ht']
  · isplitr; · iexact HR
    isplitl [Hpa']; · iexact Hpa'
    isplitl [Hroom]; · iexact Hroom
    isplitl [HO]; · iexact HO
    isplitl [Ht] <;> iassumption
  iintro ⟨Hc3, HO⟩
  iapply (wait_dma m K c 8 (Fin.isLt (9 : Fin 13)) (wpE_waitDma2_eq 𝒱₀ (c : Thread nD τ) none Set.univ) rfl 2 (Nat.le_refl 2) (above_zero 2))
    $$ [HO Hc9 Hat9]
  · isplitr; · iexact HR
    isplitr; · iexact Hlev
    isplitl [Hc9]; · iexact Hc9
    isplitl [HO] <;> iassumption
  iintro ⟨HO, Hat9, Hpb⟩
  ihave Hpb := (show dmaPay m c (8 + 3) ⊢ pbPts c (stripSet 0) fullShare (xb m (across c)) from BI.Entails.refl _) $$ Hpb
  iapply (load_o c) $$ Ho
  iintro Ho
  iapply (load_pa c (halfSet c) (mineR_set c)) $$ Hpa
  iintro Hpa
  iapply (load_pb c (stripSet 0) rfl) $$ Hpb
  iintro Hpb
  iapply (load_o c) $$ Ho
  iintro Ho
  iapply (store_tile c (out0 m c) (out1 m c) rfl) $$ Ho
  iintro Ho
  iapply (wait_dma m K c 3 (Fin.isLt (4 : Fin 13)) (wpE_waitDma2_eq 𝒱₀ (c : Thread nD τ) none Set.univ) (half_credit_p c 3 (of_decide_eq_true rfl)) 3 (Nat.le_refl 3) (above_zero 3))
    $$ [HO Hc4 Hat4]
  · isplitr; · iexact HR
    isplitr; · iexact Hlev
    isplitl [Hc4]; · iexact Hc4
    isplitl [HO] <;> iassumption
  iintro ⟨HO, Hat4, Hpa2⟩
  ihave Hpa2 := (show dmaPay m c (3 + 3) ⊢ paPts c (halfSet (beside c)) fullShare (xa m (across (beside c))) from BI.Entails.refl _) $$ Hpa2
  rw [wp_ret]
  imodintro
  iapply Hk
  isplitl [HO]; · iexact HO
  isplitl [Hc3]; · iexact Hc3
  isplitl [Hpa]; · iexact Hpa
  isplitl [Hpa2]; · iexact Hpa2
  isplitl [Hpb]; · iexact Hpb
  isplitl [Hat9]; · iexact Hat9
  isplitl [Hat4]; · iexact Hat4
  iexact Ho

end Cert.KernelIdeal.Exchange

end
-- ==== Proof.KernelIdeal.Closing.lean ====
/-
# The second half of the kernel: the tiles, and the waits that give back what was sent

One theorem per printed part of the kernel, each over any continuation of the part.
-/
module

public import proofs.«01_k».proof.Proof.KernelIdeal.Opening

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 13 → ℕ) (c : Dev nD)
variable {h0 : aM.IsWhole} {h1 : bM.IsWhole} {h2 : oM.IsWhole} {h3 : paM.IsWhole} {h4 : pbM.IsWhole}

/-- Part 5: the second and third tiles are added; the fourth tile's old contents and the forwarded half are read for the next part. -/
theorem run_part5 {Q : (Σ' (v150 : FVec F S1024x512 .f32), Vec F S1024x1024 .bf16) → sProp 𝕄} (v5 v6 v17 v19 : BitVec 32) :
    iprop((records m K ∗ levAts L lv ∗ ow c 0 ∗ paPts c (halfSet c) fullShare.left (xa m (across c)) ∗ paPts c (halfSet (beside c)) fullShare (xa m (across (beside c)))
        ∗ pbPts c (stripSet 0) fullShare (xb m (across c)) ∗ cred (tallyAt (kcell (c, 10)) () NB) ∗ atPos ER (kcell (c, 10)) 0 ∅ 0 ∗ oPts c (out1 m c))
      ∗ ((ow c 0 ∗ paPts c (halfSet c) fullShare.left (xa m (across c)) ∗ paPts c (halfSet (beside c)) fullShare (xa m (across (beside c)))
          ∗ pbPts c (stripSet 0) fullShare (xb m (across c)) ∗ pbPts c (stripSet 1) fullShare (xb m (across c)) ∗ atPos ER (kcell (c, 10)) 1 ∅ 0 ∗ oPts c (out3 m c))
        -∗ Q ⟨k0_pay5 (getO (tile4R c) (out3 m c)), theirs m c⟩))
      ⊢ WP c (k0_part5 (F := F) aM h0 bM h1 oM h2 paM h3 pbM h4 cc0_scratch2 cc0_scratch3 cc0_scratch4 cc0_scratch5 c v5 v6 v17 v19) Q := by
  simp only [k0_part5_eq_skeleton]; unfold k0_part5_skel
  simp only [Prog.lift, Prog.bind_op, Prog.bind_ret, Prog.pure_eq_ret]
  iintro ⟨⟨#HR, #Hlev, HO, Hm, Ht, Hb0, Hc, Hat, Ho⟩, Hk⟩
  iapply (load_o c) $$ Ho
  iintro Ho
  iapply (load_pa c (halfSet (beside c)) (theirsR_set c)) $$ Ht
  iintro Ht
  iapply (load_pb c (stripSet 0) rfl) $$ Hb0
  iintro Hb0
  iapply (load_o c) $$ Ho
  iintro Ho
  iapply (store_tile c (out1 m c) (out2 m c) rfl) $$ Ho
  iintro Ho
  iapply (wait_dma m K c 9 (Fin.isLt (10 : Fin 13)) (wpE_waitDma2_eq 𝒱₀ (c : Thread nD τ) none Set.univ) (strip1_credit_p 9 (of_decide_eq_false rfl)) 2 (Nat.le_refl 2) (above_zero 2))
    $$ [HO Hc Hat]
  · isplitr; · iexact HR
    isplitr; · iexact Hlev
    isplitl [Hc]; · iexact Hc
    isplitl [HO] <;> iassumption
  iintro ⟨HO, Hat, Hb1⟩
  ihave Hb1 := (show dmaPay m c (9 + 3) ⊢ pbPts c (stripSet 1) fullShare (xb m (across c)) from BI.Entails.refl _) $$ Hb1
  iapply (load_o c) $$ Ho
  iintro Ho
  iapply (load_pa c (halfSet c) (mineR_set c)) $$ Hm
  iintro Hm
  iapply (load_pb c (stripSet 1) rfl) $$ Hb1
  iintro Hb1
  iapply (load_o c) $$ Ho
  iintro Ho
  iapply (store_tile c (out2 m c) (out3 m c) rfl) $$ Ho
  iintro Ho
  iapply (load_o c) $$ Ho
  iintro Ho
  iapply (load_pa c (halfSet (beside c)) (theirsR_set c)) $$ Ht
  iintro Ht
  iapply (ret_intro c)
  iapply Hk
  isplitl [HO]; · iexact HO
  isplitl [Hm]; · iexact Hm
  isplitl [Ht]; · iexact Ht
  isplitl [Hb0]; · iexact Hb0
  isplitl [Hb1]; · iexact Hb1
  isplitl [Hat]; · iexact Hat
  iexact Ho

/-- Part 6: the fourth and fifth tiles are added; the sixth tile's new contents are computed for the next part. -/
theorem run_part6 {Q : FVec F S1024x512 .f32 → sProp 𝕄} (v5 v6 v17 v19 : BitVec 32) :
    iprop((records m K ∗ levAts L lv ∗ ow c 0 ∗ paPts c (halfSet c) fullShare.left (xa m (across c)) ∗ paPts c (halfSet (beside c)) fullShare (xa m (across (beside c)))
        ∗ pbPts c (stripSet 1) fullShare (xb m (across c)) ∗ cred (tallyAt (kcell (c, 11)) () NB) ∗ atPos ER (kcell (c, 11)) 0 ∅ 0 ∗ oPts c (out3 m c))
      ∗ ((ow c 0 ∗ paPts c (halfSet c) fullShare.left (xa m (across c)) ∗ paPts c (halfSet (beside c)) fullShare (xa m (across (beside c)))
          ∗ pbPts c (stripSet 1) fullShare (xb m (across c)) ∗ pbPts c (stripSet 2) fullShare (xb m (across c)) ∗ atPos ER (kcell (c, 11)) 1 ∅ 0 ∗ oPts c (out5 m c))
        -∗ Q (k0_pay8 (getO (tile6R c) (out5 m c)) (theirs m c) (strip2 m c))))
      ⊢ WP c (k0_part6 (F := F) aM h0 bM h1 oM h2 paM h3 pbM h4 cc0_scratch2 cc0_scratch3 cc0_scratch4 cc0_scratch5 c v5 v6 v17 v19 (k0_pay5 (getO (tile4R c) (out3 m c))) (theirs m c)) Q := by
  simp only [k0_part6_eq_skeleton]; unfold k0_part6_skel
  simp only [Prog.lift, Prog.bind_op, Prog.bind_ret, Prog.pure_eq_ret]
  iintro ⟨⟨#HR, #Hlev, HO, Hm, Ht, Hb1, Hc, Hat, Ho⟩, Hk⟩
  iapply (load_pb c (stripSet 1) rfl) $$ Hb1
  iintro Hb1
  iapply (load_o c) $$ Ho
  iintro Ho
  iapply (store_tile c (out3 m c) (out4 m c) rfl) $$ Ho
  iintro Ho
  iapply (wait_dma m K c 10 (Fin.isLt (11 : Fin 13)) (wpE_waitDma2_eq 𝒱₀ (c : Thread nD τ) none Set.univ) (strip2_credit_p 10 (of_decide_eq_false rfl)) 2 (Nat.le_refl 2) (above_zero 2))
    $$ [HO Hc Hat]
  · isplitr; · iexact HR
    isplitr; · iexact Hlev
    isplitl [Hc]; · iexact Hc
    isplitl [HO] <;> iassumption
  iintro ⟨HO, Hat, Hb2⟩
  ihave Hb2 := (show dmaPay m c (10 + 3) ⊢ pbPts c (stripSet 2) fullShare (xb m (across c)) from BI.Entails.refl _) $$ Hb2
  iapply (load_o c) $$ Ho
  iintro Ho
  iapply (load_pa c (halfSet c) (mineR_set c)) $$ Hm
  iintro Hm
  iapply (load_pb c (stripSet 2) rfl) $$ Hb2
  iintro Hb2
  iapply (load_o c) $$ Ho
  iintro Ho
  iapply (store_tile c (out4 m c) (out5 m c) rfl) $$ Ho
  iintro Ho
  iapply (load_o c) $$ Ho
  iintro Ho
  iapply (load_pa c (halfSet (beside c)) (theirsR_set c)) $$ Ht
  iintro Ht
  iapply (load_pb c (stripSet 2) rfl) $$ Hb2
  iintro Hb2
  iapply (load_o c) $$ Ho
  iintro Ho
  iapply (ret_intro c)
  iapply Hk
  isplitl [HO]; · iexact HO
  isplitl [Hm]; · iexact Hm
  isplitl [Ht]; · iexact Ht
  isplitl [Hb1]; · iexact Hb1
  isplitl [Hb2]; · iexact Hb2
  isplitl [Hat]; · iexact Hat
  iexact Ho

/-- Part 7: the last three tiles are stored. -/
theorem run_part7 {Q : PUnit → sProp 𝕄} (v5 v6 v17 v19 : BitVec 32) :
    iprop((records m K ∗ levAts L lv ∗ ow c 0 ∗ paPts c (halfSet c) fullShare.left (xa m (across c)) ∗ paPts c (halfSet (beside c)) fullShare (xa m (across (beside c)))
        ∗ cred (tallyAt (kcell (c, 12)) () NB) ∗ atPos ER (kcell (c, 12)) 0 ∅ 0 ∗ oPts c (out5 m c))
      ∗ ((ow c 0 ∗ paPts c (halfSet c) fullShare.left (xa m (across c)) ∗ paPts c (halfSet (beside c)) fullShare (xa m (across (beside c)))
          ∗ pbPts c (stripSet 3) fullShare (xb m (across c)) ∗ atPos ER (kcell (c, 12)) 1 ∅ 0 ∗ oPts c (outAt m c)) -∗ Q ⟨⟩))
      ⊢ WP c (k0_part7 (F := F) aM h0 bM h1 oM h2 paM h3 pbM h4 cc0_scratch2 cc0_scratch3 cc0_scratch4 cc0_scratch5 c v5 v6 v17 v19 (k0_pay8 (getO (tile6R c) (out5 m c)) (theirs m c) (strip2 m c))) Q := by
  simp only [k0_part7_eq_skeleton]; unfold k0_part7_skel
  simp only [Prog.lift, Prog.bind_op, Prog.bind_ret, Prog.pure_eq_ret]
  iintro ⟨⟨#HR, #Hlev, HO, Hm, Ht, Hc, Hat, Ho⟩, Hk⟩
  iapply (store_tile c (out5 m c) (out6 m c) rfl) $$ Ho
  iintro Ho
  iapply (wait_dma m K c 11 (Fin.isLt (12 : Fin 13)) (wpE_waitDma2_eq 𝒱₀ (c : Thread nD τ) none Set.univ) (strip3_credit_p 11 (of_decide_eq_false rfl)) 2 (Nat.le_refl 2) (above_zero 2))
    $$ [HO Hc Hat]
  · isplitr; · iexact HR
    isplitr; · iexact Hlev
    isplitl [Hc]; · iexact Hc
    isplitl [HO] <;> iassumption
  iintro ⟨HO, Hat, Hb3⟩
  ihave Hb3 := (show dmaPay m c (11 + 3) ⊢ pbPts c (stripSet 3) fullShare (xb m (across c)) from BI.Entails.refl _) $$ Hb3
  iapply (load_o c) $$ Ho
  iintro Ho
  iapply (load_pa c (halfSet c) (mineR_set c)) $$ Hm
  iintro Hm
  iapply (load_pb c (stripSet 3) rfl) $$ Hb3
  iintro Hb3
  iapply (load_o c) $$ Ho
  iintro Ho
  iapply (store_tile c (out6 m c) (out7 m c) rfl) $$ Ho
  iintro Ho
  iapply (load_o c) $$ Ho
  iintro Ho
  iapply (load_pa c (halfSet (beside c)) (theirsR_set c)) $$ Ht
  iintro Ht
  iapply (load_pb c (stripSet 3) rfl) $$ Hb3
  iintro Hb3
  iapply (load_o c) $$ Ho
  iintro Ho
  iapply (store_tile c (out7 m c) (outAt m c) rfl) $$ Ho
  iintro Ho
  iapply (ret_intro c)
  iapply Hk
  isplitl [HO]; · iexact HO
  isplitl [Hm]; · iexact Hm
  isplitl [Ht]; · iexact Ht
  isplitl [Hb3]; · iexact Hb3
  isplitl [Hat]; · iexact Hat
  iexact Ho

/-- Part 8: all but one of the sent pieces come back. -/
theorem run_part8 {Q : PUnit → sProp 𝕄} :
    iprop((records m K ∗ levAts L lv ∗ ow c 0

        ∗ cred (tallyAt (kcell (c, 1)) () NA) ∗ atPos ER (kcell (c, 1)) 0 ∅ 0
        ∗ cred (tallyAt (kcell (c, 3)) () NA) ∗ atPos ER (kcell (c, 3)) 0 ∅ 0
        ∗ cred (tallyAt (kcell (c, 5)) () NB) ∗ atPos ER (kcell (c, 5)) 0 ∅ 0
        ∗ cred (tallyAt (kcell (c, 6)) () NB) ∗ atPos ER (kcell (c, 6)) 0 ∅ 0
        ∗ cred (tallyAt (kcell (c, 7)) () NB) ∗ atPos ER (kcell (c, 7)) 0 ∅ 0)
      ∗ ((ow c 0

          ∗ atPos ER (kcell (c, 1)) 1 ∅ 0 ∗ aPts c (halfSet c) fullShare.right (xa m c) ∗ atPos ER (kcell (c, 3)) 1 ∅ 0 ∗ paPts c (halfSet c) fullShare.right (xa m (across c)) ∗ atPos ER (kcell (c, 5)) 1 ∅ 0 ∗ bPts c (stripSet 0) fullShare.right (xb m c) ∗ atPos ER (kcell (c, 6)) 1 ∅ 0 ∗ bPts c (stripSet 1) fullShare.right (xb m c) ∗ atPos ER (kcell (c, 7)) 1 ∅ 0 ∗ bPts c (stripSet 2) fullShare.right (xb m c)) -∗ Q ⟨⟩))
      ⊢ WP c (k0_part8 (F := F) aM h0 bM h1 oM h2 paM h3 pbM h4 cc0_scratch2 cc0_scratch3 cc0_scratch4 cc0_scratch5 c) Q := by
  simp only [k0_part8_eq_skeleton]; unfold k0_part8_skel
  simp only [Prog.lift, Prog.bind_op, Prog.bind_ret, Prog.pure_eq_ret]
  iintro ⟨⟨#HR, #Hlev, HO, Hc1, Hat1, Hc3, Hat3, Hc5, Hat5, Hc6, Hat6, Hc7, Hat7⟩, Hk⟩
  iapply (wait_dma m K c 0 (Fin.isLt (1 : Fin 13)) (wpE_waitDma2_eq 𝒱₀ (c : Thread nD τ) none Set.univ) (half_credit_a c 0 (of_decide_eq_true rfl)) 2 (Nat.zero_le 2) (above_zero 2))
    $$ [HO Hc1 Hat1]
  · isplitr; · iexact HR
    isplitr; · iexact Hlev
    isplitl [Hc1]; · iexact Hc1
    isplitl [HO] <;> iassumption
  iintro ⟨HO, Hat1, Hr1⟩
  ihave Hr1 := (show dmaPay m c (0 + 3) ⊢ aPts c (halfSet c) fullShare.right (xa m c) from BI.Entails.refl _) $$ Hr1
  iapply (wait_dma m K c 2 (Fin.isLt (3 : Fin 13)) (wpE_waitDma2_eq 𝒱₀ (c : Thread nD τ) none Set.univ) (half_credit_p c 2 (of_decide_eq_true rfl)) 2 (Nat.zero_le 2) (above_zero 2))
    $$ [HO Hc3 Hat3]
  · isplitr; · iexact HR
    isplitr; · iexact Hlev
    isplitl [Hc3]; · iexact Hc3
    isplitl [HO] <;> iassumption
  iintro ⟨HO, Hat3, Hr3⟩
  ihave Hr3 := (show dmaPay m c (2 + 3) ⊢ paPts c (halfSet c) fullShare.right (xa m (across c)) from BI.Entails.refl _) $$ Hr3
  iapply (wait_dma m K c 4 (Fin.isLt (5 : Fin 13)) (wpE_waitDma2_eq 𝒱₀ (c : Thread nD τ) none Set.univ) (strip0_credit_b 4 (of_decide_eq_false rfl)) 2 (Nat.zero_le 2) (above_zero 2))
    $$ [HO Hc5 Hat5]
  · isplitr; · iexact HR
    isplitr; · iexact Hlev
    isplitl [Hc5]; · iexact Hc5
    isplitl [HO] <;> iassumption
  iintro ⟨HO, Hat5, Hr5⟩
  ihave Hr5 := (show dmaPay m c (4 + 3) ⊢ bPts c (stripSet 0) fullShare.right (xb m c) from BI.Entails.refl _) $$ Hr5
  iapply (wait_dma m K c 5 (Fin.isLt (6 : Fin 13)) (wpE_waitDma2_eq 𝒱₀ (c : Thread nD τ) none Set.univ) (strip1_credit_b 5 (of_decide_eq_false rfl)) 2 (Nat.zero_le 2) (above_zero 2))
    $$ [HO Hc6 Hat6]
  · isplitr; · iexact HR
    isplitr; · iexact Hlev
    isplitl [Hc6]; · iexact Hc6
    isplitl [HO] <;> iassumption
  iintro ⟨HO, Hat6, Hr6⟩
  ihave Hr6 := (show dmaPay m c (5 + 3) ⊢ bPts c (stripSet 1) fullShare.right (xb m c) from BI.Entails.refl _) $$ Hr6
  iapply (wait_dma m K c 6 (Fin.isLt (7 : Fin 13)) (wpE_waitDma2_eq 𝒱₀ (c : Thread nD τ) none Set.univ) (strip2_credit_b 6 (of_decide_eq_false rfl)) 2 (Nat.zero_le 2) (above_zero 2))
    $$ [HO Hc7 Hat7]
  · isplitr; · iexact HR
    isplitr; · iexact Hlev
    isplitl [Hc7]; · iexact Hc7
    isplitl [HO] <;> iassumption
  iintro ⟨HO, Hat7, Hr7⟩
  ihave Hr7 := (show dmaPay m c (6 + 3) ⊢ bPts c (stripSet 2) fullShare.right (xb m c) from BI.Entails.refl _) $$ Hr7
  iapply (ret_intro c)
  iapply Hk
  isplitl [HO]; · iexact HO
  isplitl [Hat1]; · iexact Hat1
  isplitl [Hr1]; · iexact Hr1
  isplitl [Hat3]; · iexact Hat3
  isplitl [Hr3]; · iexact Hr3
  isplitl [Hat5]; · iexact Hat5
  isplitl [Hr5]; · iexact Hr5
  isplitl [Hat6]; · iexact Hat6
  isplitl [Hr6]; · iexact Hr6
  isplitl [Hat7]; · iexact Hat7
  iexact Hr7

end Cert.KernelIdeal.Exchange

end
-- ==== Proof.KernelIdeal.Body.lean ====
/-
# The kernel on one device

The parts of the kernel run one after another. Before them the device splits what it holds of its blocks: half of its share of
`A` and of `B` stays for its own loads, the other half is lent to the copies, `A` by halves and `B` by strips. After
them everything has come back, and the device's cells are closed.
-/
module

public import proofs.«01_k».proof.Proof.KernelIdeal.Closing

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 13 → ℕ) (c : Dev nD)

/-! ## Splitting and joining what a device holds -/

omit [FloatOps F] in
/-- The staged `A` at the full share: one half of the share on everything, the other on the device's half and on the rest. -/
theorem a_shares (f : S2048x1024.Idx → Elt F .bf16) :
    aPts c Finset.univ fullShare f ⊣⊢ (iprop(aPts c Finset.univ fullShare.left f
      ∗ aPts c (halfSet c) fullShare.right f ∗ aPts c (halfSet (beside c)) fullShare.right f) : sProp 𝕄) := by
  unfold aPts
  rw [← univ_sdiff_halfSet]
  have h := pointsTo_share (Ix := Unit) (Name := ℕ) (U := UU) (Lvl := ℕ) (ℓ := (c : Thread nD τ).loc cc0_stg0_0) (I := Finset.univ) (f := f) (PosShare.mem_left_op_right fullShare)
  have h' := pointsTo_split_subset (Ix := Unit) (Name := ℕ) (U := UU) (Lvl := ℕ) (ℓ := (c : Thread nD τ).loc cc0_stg0_0) (q := fullShare.right) (f := f) (Finset.subset_univ (halfSet c))
  exact ⟨h.1.trans (sep_mono_right h'.1), (sep_mono_right h'.2).trans h.2⟩

omit [FloatOps F] in
/-- A `1024 × 2048` buffer is its four strips. -/
theorem strips_eq (d : Dev nD) (b : Ref sig .tc) (q : PosShare TreeShare) (f : Buf (Elt F) ((d : Thread nD τ).loc b)) (S : Fin 4 → Finset (Idx ((d : Thread nD τ).loc b)))
    (hS : (Finset.univ : Finset (Fin 4)).biUnion S = Finset.univ) (hd : ∀ t ∈ (Finset.univ : Finset (Fin 4)), ∀ t' ∈ (Finset.univ : Finset (Fin 4)), t ≠ t' → Disjoint (S t) (S t')) :
    (((d : Thread nD τ).loc b) ↦{q} f : sProp 𝕄)
      = iprop((((d : Thread nD τ).loc b) ↦[S 0]{q} f) ∗ (((d : Thread nD τ).loc b) ↦[S 1]{q} f) ∗ (((d : Thread nD τ).loc b) ↦[S 2]{q} f)
        ∗ (((d : Thread nD τ).loc b) ↦[S 3]{q} f)) := by
  rw [← hS, pointsTo_biUnion Finset.univ S hd, bigSep_univ_eq_bigSepL [0, 1, 2, 3] (by decide) (by decide)]
  rfl

omit [FloatOps F] in
theorem pb_strips (d : Dev nD) (q : PosShare TreeShare) (f : S1024x2048.Idx → Elt F .bf16) :
    (pbPts d Finset.univ q f : sProp 𝕄) = iprop(pbPts d (stripSet 0) q f ∗ pbPts d (stripSet 1) q f ∗ pbPts d (stripSet 2) q f ∗ pbPts d (stripSet 3) q f) := by
  unfold pbPts
  exact strips_eq d cc0_scratch1 q f stripSet stripSet_cover fun t _ t' _ h => stripSet_disjoint h

omit [FloatOps F] in
/-- The staged `B` at the full share: one half of the share on everything, the other by strips. -/
theorem b_shares (f : S1024x2048.Idx → Elt F .bf16) :
    bPts c Finset.univ fullShare f ⊣⊢ (iprop(bPts c Finset.univ fullShare.left f ∗ bPts c (stripSet 0) fullShare.right f
      ∗ bPts c (stripSet 1) fullShare.right f ∗ bPts c (stripSet 2) fullShare.right f ∗ bPts c (stripSet 3) fullShare.right f) : sProp 𝕄) := by
  unfold bPts
  rw [← strips_eq c cc0_stg1_0 fullShare.right f stripSet stripSet_cover fun t _ t' _ h => stripSet_disjoint h]
  exact pointsTo_share (PosShare.mem_left_op_right fullShare)

omit [FloatOps F] in
/-- The `A` landing buffer comes together again: both shares of the received half, and the forwarded half. -/
theorem pa_whole (f g : S2048x1024.Idx → Elt F .bf16) :
    (iprop(paPts c (halfSet c) fullShare.left f ∗ paPts c (halfSet c) fullShare.right f ∗ paPts c (halfSet (beside c)) fullShare g) : sProp 𝕄)
      ⊢ iprop(∃ f, paPts c Finset.univ fullShare f) := by
  unfold paPts
  rw [← univ_sdiff_halfSet]
  iintro ⟨H1, H2, H3⟩
  ihave H := (pointsTo_share (Ix := Unit) (Name := ℕ) (U := UU) (Lvl := ℕ) (ℓ := (c : Thread nD τ).loc cc0_scratch0) (I := halfSet c) (f := f) (PosShare.mem_left_op_right fullShare)).2 $$ [H1 H2]
  · isplitl [H1] <;> iassumption
  ihave H' := (pointsTo_join_subset (Ix := Unit) (Name := ℕ) (U := UU) (Lvl := ℕ) (ℓ := (c : Thread nD τ).loc cc0_scratch0) (q := fullShare) (f := g) (g := f) (Finset.subset_univ (halfSet c))) $$ [H H3]
  · isplitl [H] <;> iassumption
  iexists _
  iexact H'

/-! ## The tokens by cell, and the closing of the cells -/

omit [FloatOps F] in
theorem payToks_eq : (bigSep Finset.univ fun j : Fin 14 => payTok c j : sProp 𝕄)
    = iprop(dutyTok ER (kcell (across c, 0)) 0 false ∗ dutyTok ER (kcell (beside c, 0)) 0 true
      ∗ dutyTok ER (kcell (c, 1)) 0 false ∗ dutyTok ER (kcell (across c, 2)) 0 false ∗ dutyTok ER (kcell (c, 3)) 0 false ∗ dutyTok ER (kcell (beside c, 4)) 0 false
      ∗ dutyTok ER (kcell (c, 5)) 0 false ∗ dutyTok ER (kcell (c, 6)) 0 false ∗ dutyTok ER (kcell (c, 7)) 0 false ∗ dutyTok ER (kcell (c, 8)) 0 false
      ∗ dutyTok ER (kcell (across c, 9)) 0 false ∗ dutyTok ER (kcell (across c, 10)) 0 false ∗ dutyTok ER (kcell (across c, 11)) 0 false
      ∗ dutyTok ER (kcell (across c, 12)) 0 false) := by
  rw [bigSep_fin14]; rfl

omit [FloatOps F] in
/-- A device whose cells are all past their round closes them: their counters are zero. -/
theorem close_cells : iprop(records m K ∗ bigSep Finset.univ fun k : Fin 13 => atPos ER (kcell (c, k)) 1 ∅ 0)
    ⊢ (|={Set.univ}=> bigSep Finset.univ fun k : Fin 13 => semVal (kcell (c, k)) 0 : sProp 𝕄) := by
  refine (sep_mono_left (BI.bigSep_of_persistent (Finset.univ : Finset (Fin 13)) (records m K))).trans ?_
  rw [← bigSep_sep']
  refine (bigSep_mono fun k _ => ?_).trans (bigSep_fupd _ _)
  exact (sep_mono_left (inv_at m K (c, k))).trans
    (Rounds.cell_close ER (sched m) (Set.mem_univ _) (fun h => h) (R := 1) (duties_later m (kcell (c, k))))

/-! ## The body -/

variable {h0 : aM.IsWhole} {h1 : bM.IsWhole} {h2 : oM.IsWhole} {h3 : paM.IsWhole} {h4 : pbM.IsWhole}

/-- Device `c` runs the kernel: from its staged blocks, its landing buffers in any state and what the launch gave it, to the
    computed block, everything back and its cells closed at zero. -/
theorem run_body {Q : PUnit → sProp 𝕄} :
    iprop((ghost m K c ∗ credits c ∗ levAts L lv ∗ (∃ f, paPts c Finset.univ fullShare f) ∗ (∃ f, pbPts c Finset.univ fullShare f)
        ∗ ow c (O₀ c) ∗ aPts c Finset.univ fullShare (xa m c) ∗ bPts c Finset.univ fullShare (xb m c) ∗ (∃ f, oPts c f))
      ∗ (((∃ f, paPts c Finset.univ fullShare f) ∗ (∃ f, pbPts c Finset.univ fullShare f)
          ∗ (bigSep Finset.univ fun k : Fin 13 => semVal (kcell (c, k)) 0)
          ∗ ow c 0 ∗ aPts c Finset.univ fullShare (xa m c) ∗ bPts c Finset.univ fullShare (xb m c) ∗ oPts c (outAt m c)) -∗ Q ⟨⟩))
      ⊢ WP c (cc0_body (F := F) aM h0 bM h1 oM h2 paM h3 pbM h4 cc0_scratch2 cc0_scratch3 cc0_scratch4 cc0_scratch5) Q := by
  rw [cc0_body_eq_skeleton]; unfold cc0_body_skel WP
  unfold ghost credits
  rw [payToks_eq, bigSep_fin13]
  iintro ⟨⟨⟨#HR, ⟨Hat0, Hat1, Hat2, Hat3, Hat4, Hat5, Hat6, Hat7, Hat8, Hat9, Hat10, Hat11, Hat12⟩,
    ⟨HtX, HtY, Ht1, Ht2, Ht3, Ht4, Ht5, Ht6, Ht7, Ht8, Ht9, Ht10, Ht11, Ht12⟩⟩,
    ⟨Hc0, Hc2, Hc4, Hc9, Hc10, Hc11, Hc12⟩, #Hlev, Hpa, Hpb, HO, Ha, Hb, Ho⟩, Hk⟩
  ihave Ha := (a_shares (F := F) c (xa m c)).1 $$ Ha
  icases Ha with ⟨Ha, Haw, Har⟩
  ihave Hb := (b_shares (F := F) c (xb m c)).1 $$ Hb
  icases Hb with ⟨Hb, Hb0, Hb1, Hb2, Hb3⟩
  -- the handshake
  rw [wp_bind]
  iapply (run_part1 m K c)
  isplitl [HO HtX HtY Hpa Hpb Hc0 Hat0]
  · isplitr; · iexact HR
    isplitr; · iexact Hlev
    isplitl [HO]; · iexact HO
    isplitl [HtX]; · iexact HtX
    isplitl [HtY]; · iexact HtY
    isplitl [Hpa]; · iexact Hpa
    isplitl [Hpb]; · iexact Hpb
    isplitl [Hc0] <;> iassumption
  iintro %v2 %v5 %v6 %v7 %v17 %v19
  unfold acrossPay
  iintro ⟨HO, Hat0, ⟨⟨%fa, Hra⟩, ⟨%fb, Hrb⟩⟩, Hry⟩
  ihave Hrb := (Entails.of_eq (pb_strips (F := F) (across c) fullShare fb)) $$ Hrb
  icases Hrb with ⟨Hr0, Hr1, Hr2, Hr3⟩
  dsimp only
  -- the copies go out
  rw [wp_bind]
  iapply (run_part2 m K c v5 v6 fa fb)
  isplitl [HO Haw Hra Hb0 Hr0 Hb1 Hr1 Ht1 Ht2 Ht5 Ht9 Ht6 Ht10]
  · isplitr; · iexact HR
    isplitl [HO]; · iexact HO
    isplitl [Haw]; · iexact Haw
    isplitl [Hra]; · iexact Hra
    isplitl [Hb0]; · iexact Hb0
    isplitl [Hr0]; · iexact Hr0
    isplitl [Hb1]; · iexact Hb1
    isplitl [Hr1]; · iexact Hr1
    isplitl [Ht1]; · iexact Ht1
    isplitl [Ht2]; · iexact Ht2
    isplitl [Ht5]; · iexact Ht5
    isplitl [Ht9]; · iexact Ht9
    isplitl [Ht6] <;> iassumption
  iintro ⟨HO, Hc1, Hc5, Hc6⟩
  rw [wp_bind]
  iapply (run_part3 m K c v2 v5 v6 v7 fb)
  isplitl [HO Hb2 Hr2 Hb3 Hr3 Ht7 Ht11 Ht8 Ht12 Ha Hb Ho Hc2 Hat2]
  · isplitr; · iexact HR
    isplitr; · iexact Hlev
    isplitl [HO]; · iexact HO
    isplitl [Hb2]; · iexact Hb2
    isplitl [Hr2]; · iexact Hr2
    isplitl [Hb3]; · iexact Hb3
    isplitl [Hr3]; · iexact Hr3
    isplitl [Ht7]; · iexact Ht7
    isplitl [Ht11]; · iexact Ht11
    isplitl [Ht8]; · iexact Ht8
    isplitl [Ht12]; · iexact Ht12
    isplitl [Ha]; · iexact Ha
    isplitl [Hb]; · iexact Hb
    isplitl [Ho]; · iexact Ho
    isplitl [Hc2] <;> iassumption
  iintro ⟨HO, Hc7, Hc8, Ha, Hb, Ho, Hat2, Hm⟩
  rw [wp_bind]
  iapply (run_part4 m K c v2 v5 v6 v7 v17)
  isplitl [HO Hm Hry Ht3 Ht4 Hc9 Hat9 Hc4 Hat4 Ho]
  · isplitr; · iexact HR
    isplitr; · iexact Hlev
    isplitl [HO]; · iexact HO
    isplitl [Hm]; · iexact Hm
    isplitl [Hry]; · iexact Hry
    isplitl [Ht3]; · iexact Ht3
    isplitl [Ht4]; · iexact Ht4
    isplitl [Hc9]; · iexact Hc9
    isplitl [Hat9]; · iexact Hat9
    isplitl [Hc4]; · iexact Hc4
    isplitl [Hat4] <;> iassumption
  iintro ⟨HO, Hc3, Hm, Ht, Hp0, Hat9, Hat4, Ho⟩
  -- the tiles
  rw [wp_bind]
  iapply (run_part5 m K c v5 v6 v17 v19)
  isplitl [HO Hm Ht Hp0 Hc10 Hat10 Ho]
  · isplitr; · iexact HR
    isplitr; · iexact Hlev
    isplitl [HO]; · iexact HO
    isplitl [Hm]; · iexact Hm
    isplitl [Ht]; · iexact Ht
    isplitl [Hp0]; · iexact Hp0
    isplitl [Hc10]; · iexact Hc10
    isplitl [Hat10] <;> iassumption
  iintro ⟨HO, Hm, Ht, Hp0, Hp1, Hat10, Ho⟩
  dsimp only
  rw [wp_bind]
  iapply (run_part6 m K c v5 v6 v17 v19)
  isplitl [HO Hm Ht Hp1 Hc11 Hat11 Ho]
  · isplitr; · iexact HR
    isplitr; · iexact Hlev
    isplitl [HO]; · iexact HO
    isplitl [Hm]; · iexact Hm
    isplitl [Ht]; · iexact Ht
    isplitl [Hp1]; · iexact Hp1
    isplitl [Hc11]; · iexact Hc11
    isplitl [Hat11] <;> iassumption
  iintro ⟨HO, Hm, Ht, Hp1, Hp2, Hat11, Ho⟩
  rw [wp_bind]
  iapply (run_part7 m K c v5 v6 v17 v19)
  isplitl [HO Hm Ht Hc12 Hat12 Ho]
  · isplitr; · iexact HR
    isplitr; · iexact Hlev
    isplitl [HO]; · iexact HO
    isplitl [Hm]; · iexact Hm
    isplitl [Ht]; · iexact Ht
    isplitl [Hc12]; · iexact Hc12
    isplitl [Hat12] <;> iassumption
  iintro ⟨HO, Hm, Ht, Hp3, Hat12, Ho⟩
  -- what was sent comes back
  rw [wp_bind]
  iapply (run_part8 m K c)
  isplitl [HO Hc1 Hat1 Hc3 Hat3 Hc5 Hat5 Hc6 Hat6 Hc7 Hat7]
  · isplitr; · iexact HR
    isplitr; · iexact Hlev
    isplitl [HO]; · iexact HO
    isplitl [Hc1]; · iexact Hc1
    isplitl [Hat1]; · iexact Hat1
    isplitl [Hc3]; · iexact Hc3
    isplitl [Hat3]; · iexact Hat3
    isplitl [Hc5]; · iexact Hc5
    isplitl [Hat5]; · iexact Hat5
    isplitl [Hc6]; · iexact Hc6
    isplitl [Hat6]; · iexact Hat6
    isplitl [Hc7] <;> iassumption
  iintro ⟨HO, Hat1, Haw, Hat3, Hmr, Hat5, Hb0, Hat6, Hb1, Hat7, Hb2⟩
  simp only [Prog.lift, Prog.bind_op, Prog.bind_ret, Prog.pure_eq_ret]
  iapply (wait_dma m K c 7 (Fin.isLt (8 : Fin 13)) (wpE_waitDma2_eq 𝒱₀ (c : Thread nD τ) none Set.univ) (strip3_credit_b 7 (of_decide_eq_false rfl)) 2 (Nat.zero_le 2) (above_zero 2))
    $$ [HO Hc8 Hat8]
  · isplitr; · iexact HR
    isplitr; · iexact Hlev
    isplitl [Hc8]; · iexact Hc8
    isplitl [HO] <;> iassumption
  iintro ⟨HO, Hat8, Hb3⟩
  ihave Hb3 := (show dmaPay m c (7 + 3) ⊢ bPts c (stripSet 3) fullShare.right (xb m c) from BI.Entails.refl _) $$ Hb3
  -- the cells close
  imod (close_cells m K c) $$ [Hat0 Hat1 Hat2 Hat3 Hat4 Hat5 Hat6 Hat7 Hat8 Hat9 Hat10 Hat11 Hat12] with Hz
  · isplitr; · iexact HR
    rw [bigSep_fin13]
    isplitl [Hat0]; · iexact Hat0
    isplitl [Hat1]; · iexact Hat1
    isplitl [Hat2]; · iexact Hat2
    isplitl [Hat3]; · iexact Hat3
    isplitl [Hat4]; · iexact Hat4
    isplitl [Hat5]; · iexact Hat5
    isplitl [Hat6]; · iexact Hat6
    isplitl [Hat7]; · iexact Hat7
    isplitl [Hat8]; · iexact Hat8
    isplitl [Hat9]; · iexact Hat9
    isplitl [Hat10]; · iexact Hat10
    isplitl [Hat11] <;> iassumption
  iapply (ret_intro c)
  iapply Hk
  isplitl [Hm Hmr Ht]
  · iapply (pa_whole (F := F) c)
    isplitl [Hm]; · iexact Hm
    isplitl [Hmr] <;> iassumption
  isplitl [Hp0 Hp1 Hp2 Hp3]
  · iexists (xb m (across c))
    rw [pb_strips]
    isplitl [Hp0]; · iexact Hp0
    isplitl [Hp1]; · iexact Hp1
    isplitl [Hp2] <;> iassumption
  isplitl [Hz]; · iexact Hz
  isplitl [HO]; · iexact HO
  isplitl [Ha Haw Har]
  · iapply (a_shares (F := F) c (xa m c)).2
    isplitl [Ha]; · iexact Ha
    isplitl [Haw] <;> iassumption
  isplitl [Hb Hb0 Hb1 Hb2 Hb3]
  · iapply (b_shares (F := F) c (xb m c)).2
    isplitl [Hb]; · iexact Hb
    isplitl [Hb0]; · iexact Hb0
    isplitl [Hb1]; · iexact Hb1
    isplitl [Hb2] <;> iassumption
  iexact Ho

end Cert.KernelIdeal.Exchange

end
-- ==== Proof.KernelIdeal.Launch.lean ====
/-
# The launch

The kernel runs on all four devices at once. At launch every cell of the exchange gets its invariant, every duty token
goes to the device that pays it, and every device holds credit for what its neighbours owe it. The body of each device
is `run_body`. `run_main` states the whole run: the two argument arrays are unchanged, every result block is what
`outAt` says, and every semaphore counter ends at zero.
-/
module

public import proofs.«01_k».proof.Proof.KernelIdeal.Body
public import proofs.«01_k».proof.Proof.Gen.KernelIdeal.Points
public import Idealize.ShloMosaic.Lib.Pipeline.CollectiveSegs

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory the program starts from: the arrays as given, every counter at zero. -/
abbrev init : MemSt nD τ sig (Elt F) := ⟨m, fun _ => 0, ρ⟩

/-! ## The staging pipeline's data -/

/-- What a device has besides its staged blocks: before, the launch's gifts and the landing buffers in any state; after, the
    landing buffers and its cells' counters at zero. -/
def before₀ (c : Dev nD) : sProp 𝕄 :=
  iprop(start m c ∗ (∃ f, paPts c Finset.univ fullShare f) ∗ ∃ f, pbPts c Finset.univ fullShare f)
def after₁ (c : Dev nD) : sProp 𝕄 :=
  iprop((∃ f, paPts c Finset.univ fullShare f) ∗ (∃ f, pbPts c Finset.univ fullShare f)
    ∗ bigSep Finset.univ fun k : Fin 13 => semVal (kcell (c, k)) 0)

def dats (_ : Fin 1) (c : Dev nD) : Dat τ (Elt F) Unit ℕ UU ℕ cfg0 c where
  A w := m ((cfg0.win w).arr.view.loc (c : Thread nD τ))
  after w _ := match w with
    | ⟨0, _⟩ => xa m c
    | ⟨1, _⟩ => xb m c
    | ⟨2, _⟩ => outAt m c
  Φ t := match t with
    | ⟨0, _⟩ => before₀ m c
    | ⟨_ + 1, _⟩ => after₁ c
  q _ := fullShare
  owed t := match t with
    | ⟨0, _⟩ => O₀ c
    | ⟨_ + 1, _⟩ => 0

omit [FloatOps F] in
theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staged block of device `c`, whole, with the contents given. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The body's start and end as the pipeline puts them. -/
def pointPre (c : Dev nD) : sProp 𝕄 :=
  iprop(before₀ m c ∗ (dats m 0 c).owesAt () t0_0.castSucc
    ∗ (∃ d, staged c cc0_stg0_0 ((dats m 0 c).before (0 : Fin 3) t0_0 d))
    ∗ (∃ d, staged c cc0_stg1_0 ((dats m 0 c).before (1 : Fin 3) t0_0 d))
    ∗ (∃ d, staged c cc0_stg2_0 ((dats m 0 c).before (2 : Fin 3) t0_0 d)))
def pointPost (c : Dev nD) : sProp 𝕄 :=
  iprop(after₁ c ∗ (dats m 0 c).owesAt () t0_0.succ
    ∗ staged c cc0_stg0_0 (xa m c) ∗ staged c cc0_stg1_0 (xb m c) ∗ staged c cc0_stg2_0 (outAt m c))

set_option maxHeartbeats 2000000 in
/-- The pipeline's body obligation: `run_body` between its start and its end. -/
theorem body_runs (c : Dev nD) : BodyObligation (dats (F := F) m 0 c) (defs₀ (F := F)) 𝒱₀ () Set.univ := fun t => by
  rw [fin_N0 t]
  rw [bigSep_W0, bigSep_W0]
  simp only [owns_stage]
  show pointPre m c ⊢ WP c (cc0_body aM (Memref.isWhole_whole _) bM (Memref.isWhole_whole _) oM (Memref.isWhole_whole _)
    paM (Memref.isWhole_whole _) pbM (Memref.isWhole_whole _) cc0_scratch2 cc0_scratch3 cc0_scratch4 cc0_scratch5) (fun _ => pointPost m c)
  unfold pointPre before₀ start
  iintro ⟨⟨⟨⟨%K, Hg⟩, Hc, Hlev⟩, Hpa, Hpb⟩, Ho, ⟨%d0, %g0, %hg0, Ha⟩, ⟨%d1, %g1, %hg1, Hb⟩, ⟨%d2, %g2, %hg2, Hr⟩⟩
  have ha : g0 = xa m c := by rw [hg0]; unfold Dat.before; rw [if_pos (fetch0_0 t0_0)]; rfl
  have hb : g1 = xb m c := by rw [hg1]; unfold Dat.before; rw [if_pos (fetch0_1 t0_0)]; rfl
  subst ha hb
  unfold Dat.owesAt Pipeline.owesWithin
  icases Ho with ⟨%W, %hW, HO⟩
  rw [show (dats m 0 c).owed t0_0.castSucc = O₀ c from rfl]
  iapply (run_body m K c)
  isplitr []
  · isplitl [Hg]; · iexact Hg
    isplitl [Hc]; · iexact Hc
    isplitl [Hlev]; · iexact Hlev
    isplitl [Hpa]; · iexact Hpa
    isplitl [Hpb]; · iexact Hpb
    isplitl [HO]; · unfold ow; iexists W; iexact HO
    isplitl [Ha]; · unfold aPts; iexact Ha
    isplitl [Hb]; · unfold bPts; iexact Hb
    iexists g2; unfold oPts; iexact Hr
  unfold pointPost after₁ Dat.owesAt Pipeline.owesWithin ow aPts bPts oPts
  rw [show (dats m 0 c).owed t0_0.succ = 0 from rfl]
  iintro ⟨Hpa, Hpb, Hz, ⟨%W', HO⟩, Ha, Hb, Hr⟩
  isplitl [Hpa Hpb Hz]
  · isplitl [Hpa]; · iexact Hpa
    isplitl [Hpb] <;> iassumption
  isplitl [HO]
  · iexists W'
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists _; isplitr; · (ipureintro; rfl)
  iexact Hr

/-! ## The cells and the tokens -/

/-- The kernel's own semaphores: cells 1 to 12. -/
abbrev osem : Fin 12 → SemLoc sig := fun k => .dma (⟨k.val + 3, Nat.add_lt_add_right k.isLt 3⟩ : Fin 15)

theorem osem_own : Pipeline.OwnSemFacts cfg0.spec osem := by decide

theorem csem_injective : Function.Injective (csem : Fin 13 → SemLoc sig) := by decide

theorem kcell_injective : Function.Injective (kcell : Dev nD × Fin 13 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Which cell, and which of its duties, duty `j` is. -/
theorem tokOf_parts (c : Dev nD) (j : Fin 14) : tokOf (c, j) = (kcell (c, ⟨j.val - 1, by omega⟩), 0, decide (j.val = 1)) := by
  obtain ⟨_ | _ | n, h⟩ := j
  · rfl
  · rfl
  · rfl

theorem tokOf_injective : Function.Injective (tokOf : Dev nD × Fin 14 → GSem nD τ sig × ℕ × Bool) := by
  rintro ⟨c, j⟩ ⟨c', j'⟩ h
  rw [tokOf_parts, tokOf_parts] at h
  have h1 := kcell_injective (congrArg Prod.fst h)
  have h2 : decide (j.val = 1) = decide (j'.val = 1) := congrArg (fun x => x.2.2) h
  have h3 : c = c' := congrArg Prod.fst h1
  have h4 : j.val - 1 = j'.val - 1 := congrArg (fun x => x.2.val) h1
  have h5 : j.val = 1 ↔ j'.val = 1 := decide_eq_decide.mp h2
  have h6 : j = j' := Fin.ext (by omega)
  rw [h3, h6]

def allCells : Finset (GSem nD τ sig) := Finset.univ.map ⟨kcell, kcell_injective⟩
def allToks : Finset (GSem nD τ sig × ℕ × Bool) := Finset.univ.map ⟨tokOf, tokOf_injective⟩

/-- The ghost state the program is launched with. -/
def u₀ : UU := (initOf (Pipeline.cells cfgs cellOf_inj) (Pipeline.launchToks cfgs cellOf_inj), initOf allCells allToks)

/-- A device's share of it: its cells' states, positions and marks, and its own cells' tokens. -/
def dealt (c : Dev nD) : sProp 𝕄 :=
  iprop((bigSep Finset.univ fun k : Fin 13 => roundState ER (sched m) (kcell (c, k)) 0)
    ∗ (bigSep Finset.univ fun k : Fin 13 => reached ER (kcell (c, k)) 0)
    ∗ (bigSep Finset.univ fun k : Fin 13 => atPos ER (kcell (c, k)) 0 ∅ 0)
    ∗ bigSep Finset.univ fun j : Fin 14 => dutyTok ER (tokOf (c, j)).1 (tokOf (c, j)).2.1 (tokOf (c, j)).2.2)

omit [FloatOps F] in
theorem deal : BI.own (ER (initOf allCells allToks)) ⊢ (|==> bigSep Finset.univ (dealt m) : sProp 𝕄) := by
  have hc (Φ : GSem nD τ sig → sProp 𝕄) : bigSep allCells Φ = bigSep Finset.univ fun c : Dev nD => bigSep Finset.univ fun k : Fin 13 => Φ (kcell (c, k)) := by
    unfold allCells; rw [bigSep_map, bigSep_univ_prod]; rfl
  have ht (Φ : GSem nD τ sig × ℕ × Bool → sProp 𝕄) : bigSep allToks Φ = bigSep Finset.univ fun c : Dev nD => bigSep Finset.univ fun j : Fin 14 => Φ (tokOf (c, j)) := by
    unfold allToks; rw [bigSep_map, bigSep_univ_prod]; rfl
  iintro HX
  imod (Rounds.fund ER (sched m) allCells allToks) $$ HX with H
  imodintro
  rw [hc, hc, hc, ht]
  unfold dealt
  rw [bigSep_sep', bigSep_sep', bigSep_sep']
  iexact H

omit [FloatOps F] in
theorem ownSems_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0
      ∗ semVal (kcell (c, 6)) 0 ∗ semVal (kcell (c, 7)) 0 ∗ semVal (kcell (c, 8)) 0 ∗ semVal (kcell (c, 9)) 0 ∗ semVal (kcell (c, 10)) 0
      ∗ semVal (kcell (c, 11)) 0 ∗ semVal (kcell (c, 12)) 0) := by
  rw [Pipeline.ownSems0_eq_of_list c osem [0, 1, 2, 3, 4, 5, 6, 7, 8, 9, 10, 11] (by decide) (by decide)]; rfl
omit [FloatOps F] in
theorem barrierSem_eq (c : Dev nD) : (unscopedSems0 c : sProp 𝕄) = semVal (kcell (c, 0)) 0 := by
  unfold unscopedSems0; rw [bigSep_eq_bigSepL_of_eq [SemLoc.reg barS] (by decide) (by decide)]; rfl
omit [FloatOps F] in
/-- The barrier's counter and the kernel's own are the thirteen cells'. -/
theorem cellSems_eq (c : Dev nD) : (bigSep Finset.univ fun k : Fin 13 => semVal (kcell (c, k)) 0 : sProp 𝕄)
    = iprop(unscopedSems0 c ∗ Pipeline.ownSems0 (Ix := Unit) (Name := ℕ) (U := UU) (Lvl := ℕ) (Val := Elt F) (τ := τ) osem c) := by
  rw [ownSems_eq, barrierSem_eq, bigSep_fin13]

omit [FloatOps F] in
/-- One device's cells get their invariants. -/
theorem alloc_cells (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : Fin 13 => iprop(∃ κ : ℕ, cellInv ER (sched m) κ (kcell (c, k))))
          ∗ (bigSep Finset.univ fun k : Fin 13 => reached ER (kcell (c, k)) 0)
          ∗ (bigSep Finset.univ fun k : Fin 13 => atPos ER (kcell (c, k)) 0 ∅ 0)
          ∗ bigSep Finset.univ fun j : Fin 14 => dutyTok ER (tokOf (c, j)).1 (tokOf (c, j)).2.1 (tokOf (c, j)).2.2) := by
  have halloc : iprop((bigSep Finset.univ fun k : Fin 13 => semVal (kcell (c, k)) 0) ∗ bigSep Finset.univ fun k : Fin 13 => roundState ER (sched m) (kcell (c, k)) 0)
      ⊢ (|={Set.univ}=> bigSep Finset.univ fun k : Fin 13 => iprop(∃ κ : ℕ, cellInv ER (sched m) κ (kcell (c, k))) : sProp 𝕄) := by
    rw [← bigSep_sep']
    exact (bigSep_mono fun k _ => (Rounds.body_intro ER (sched m) (kcell (c, k))).trans inv_alloc).trans (bigSep_fupd _ _)
  rw [cellSems_eq] at halloc
  unfold dealt
  iintro ⟨Hown, Hbar, Hst, Hrest⟩
  imod halloc $$ [Hown Hbar Hst] with Hinv
  · isplitl [Hown Hbar]
    · isplitl [Hbar] <;> iassumption
    iexact Hst
  imodintro
  isplitl [Hinv] <;> iassumption

/-- Duty `j` of device `c` moved to the device whose cell it is paid to. -/
def routeE : Dev nD × Fin 14 ≃ Dev nD × Fin 14 where
  toFun cj := (route cj.2 cj.1, cj.2)
  invFun cj := ((route cj.2).symm cj.1, cj.2)
  left_inv cj := Prod.ext ((route cj.2).symm_apply_apply cj.1) rfl
  right_inv cj := Prod.ext ((route cj.2).apply_symm_apply cj.1) rfl

omit [FloatOps F] in
/-- Every token goes to the device that pays it. -/
theorem toks_routed :
    (bigSep Finset.univ fun c : Dev nD => bigSep Finset.univ fun j : Fin 14 => dutyTok ER (tokOf (c, j)).1 (tokOf (c, j)).2.1 (tokOf (c, j)).2.2 : sProp 𝕄)
      = bigSep Finset.univ fun c : Dev nD => bigSep Finset.univ fun j : Fin 14 => payTok c j := by
  rw [← bigSep_univ_prod (fun cj : Dev nD × Fin 14 => (dutyTok ER (tokOf cj).1 (tokOf cj).2.1 (tokOf cj).2.2 : sProp 𝕄)),
    ← bigSep_univ_prod (fun cj : Dev nD × Fin 14 => (payTok cj.1 cj.2 : sProp 𝕄)), bigSep_univ_equiv routeE]
  rfl

omit [FloatOps F] in
/-- All devices' cells at once: the records are shared out, the positions and tokens dealt. -/
theorem regroup :
    (bigSep Finset.univ fun c : Dev nD => iprop((bigSep Finset.univ fun k : Fin 13 => iprop(∃ κ : ℕ, cellInv ER (sched m) κ (kcell (c, k))))
          ∗ (bigSep Finset.univ fun k : Fin 13 => reached ER (kcell (c, k)) 0)
          ∗ (bigSep Finset.univ fun k : Fin 13 => atPos ER (kcell (c, k)) 0 ∅ 0)
          ∗ bigSep Finset.univ fun j : Fin 14 => dutyTok ER (tokOf (c, j)).1 (tokOf (c, j)).2.1 (tokOf (c, j)).2.2) : sProp 𝕄)
      ⊢ bigSep Finset.univ fun c : Dev nD => iprop(∃ K, ghost m K c) := by
  rw [bigSep_sep', bigSep_sep', bigSep_sep', toks_routed,
    ← bigSep_univ_prod (fun ck : Dev nD × Fin 13 => iprop(∃ κ : ℕ, cellInv ER (sched m) κ (kcell ck))),
    ← bigSep_univ_prod (fun ck : Dev nD × Fin 13 => (reached ER (kcell ck) 0 : sProp 𝕄))]
  have hone (K : Dev nD × Fin 13 → ℕ) (c : Dev nD) : (iprop(records m K ∗ (bigSep Finset.univ fun k : Fin 13 => atPos ER (kcell (c, k)) 0 ∅ 0)
        ∗ bigSep Finset.univ fun j : Fin 14 => payTok c j) : sProp 𝕄) ⊢ iprop(∃ K, ghost m K c) := by
    iintro H
    iexists K
    unfold ghost
    iexact H
  have hall (K : Dev nD × Fin 13 → ℕ) : (iprop(records m K ∗ bigSep Finset.univ fun c : Dev nD => iprop((bigSep Finset.univ fun k : Fin 13 => atPos ER (kcell (c, k)) 0 ∅ 0)
        ∗ bigSep Finset.univ fun j : Fin 14 => payTok c j)) : sProp 𝕄) ⊢ bigSep Finset.univ fun c : Dev nD => iprop(∃ K, ghost m K c) := by
    refine (sep_mono_left (BI.bigSep_of_persistent (Finset.univ : Finset (Dev nD)) (records m K))).trans ?_
    rw [← bigSep_sep']
    exact bigSep_mono fun c _ => hone K c
  iintro ⟨HI, #Hr, Hat, Ht⟩
  ihave HI := (BI.bigSep_exists_pi Finset.univ (fun (ck : Dev nD × Fin 13) (κ : ℕ) => (cellInv ER (sched m) κ (kcell ck) : sProp 𝕄))) $$ HI
  icases HI with ⟨%K, #HI⟩
  iapply (hall K)
  isplitr
  · unfold records
    isplitl; · iexact HI
    iexact Hr
  rw [bigSep_sep']
  isplitl [Hat] <;> iassumption

omit [FloatOps F] in
theorem share_out :
    (bigSep Finset.univ fun c : Dev nD => iprop(Pipeline.ownSems0 (Ix := Unit) (Name := ℕ) (U := UU) (Lvl := ℕ) (Val := Elt F) (τ := τ) osem c ∗ unscopedSems0 c ∗ dealt m c) : sProp 𝕄)
      ⊢ |={Set.univ}=> bigSep Finset.univ fun c : Dev nD => iprop(∃ K, ghost m K c) :=
  ((bigSep_mono fun c _ => alloc_cells m c).trans (bigSep_fupd _ _)).trans (BI.fupd_mono (regroup m))

/-! ## The credit at launch -/

theorem across_inj {a b : Dev nD} (h : across a = across b) : a = b := by rw [← across_across a, h, across_across]
theorem beside_inj {a b : Dev nD} (h : beside a = beside b) : a = b := by rw [← beside_beside a, h, beside_beside]

/-- What all devices together owe a cell through one kind of payment: one device owes it, if the payment is to that cell. -/
theorem owed_sum (σ : Dev nD ≃ Dev nD) (k k' : Fin 13) (x : ℕ) (c : Dev nD) :
    (∑ d : Dev nD, (tallyAt (kcell (σ d, k)) () x : CellTallies nD τ sig Unit) (kcell (c, k')) ()) = if k = k' then x else 0 := by
  by_cases h : k = k'
  · subst h
    rw [if_pos rfl, Finset.sum_congr rfl fun d _ => show _ = if d = σ.symm c then x else 0 from by
      rw [tallyAt_apply]
      by_cases h : d = σ.symm c
      · subst h; rw [σ.apply_symm_apply, if_pos ⟨rfl, rfl⟩, if_pos rfl]
      · rw [if_neg (fun h' => h ((σ.symm_apply_apply d).symm.trans (congrArg σ.symm (show c = σ d from congrArg Prod.fst (kcell_injective h'.1)).symm))), if_neg h],
      Finset.sum_ite_eq' Finset.univ (σ.symm c) fun _ => x, if_pos (Finset.mem_univ _)]
  · rw [if_neg h]
    refine Finset.sum_eq_zero fun d _ => ?_
    rw [tallyAt_apply, if_neg (fun h' => h (congrArg Prod.snd (kcell_injective h'.1)).symm)]

/-- What cell `k` of a device is owed. -/
def due (k : Fin 13) : ℕ :=
  (if (4 : Fin 13) = k then NA else 0) + (if (12 : Fin 13) = k then NB else 0) + (if (11 : Fin 13) = k then NB else 0) + (if (10 : Fin 13) = k then NB else 0)
    + (if (9 : Fin 13) = k then NB else 0) + (if (2 : Fin 13) = k then NA else 0) + (if (0 : Fin 13) = k then 1 else 0) + (if (0 : Fin 13) = k then 1 else 0)

theorem owed_all (c : Dev nD) (k : Fin 13) : (∑ d : Dev nD, O₀ d (kcell (c, k)) ()) = due k := by
  unfold O₀ oY oA o0 o1 o2 o3 oF due
  simp only [Pi.add_apply, Finsupp.add_apply, Finset.sum_add_distrib]
  refine congrArg₂ _ (congrArg₂ _ (congrArg₂ _ (congrArg₂ _ (congrArg₂ _ (congrArg₂ _ (congrArg₂ _ ?_ ?_) ?_) ?_) ?_) ?_) ?_) ?_
  · exact owed_sum besideE 4 k NA c
  · exact owed_sum acrossE 12 k NB c
  · exact owed_sum acrossE 11 k NB c
  · exact owed_sum acrossE 10 k NB c
  · exact owed_sum acrossE 9 k NB c
  · exact owed_sum acrossE 2 k NA c
  · exact owed_sum besideE 0 k 1 c
  · exact owed_sum acrossE 0 k 1 c

omit [FloatOps F] in
/-- A device is launched with credit for what its cells are owed. -/
theorem launch_credits (c : Dev nD) : (Pipeline.launchCred O₀ c : sProp 𝕄) ⊢ credits c := by
  have hcell (k : Fin 13) : tallyOn (kcell (c, k)) (launchCredit (Pipeline.owing O₀) 0 (kcell (c, k))) = (tallyAt (kcell (c, k)) () (due k) : CellTallies nD τ sig Unit) := by
    unfold tallyAt
    refine congrArg _ (Finsupp.ext fun u => ?_)
    cases u
    rw [Pipeline.launchCredit_owing, Finsupp.single_eq_same, owed_all]
  unfold Pipeline.launchCred
  refine (bigSep_subset (Finset.subset_univ (Finset.univ.map ⟨csem, csem_injective⟩))).trans ?_
  rw [bigSep_map]
  refine (Entails.of_eq (bigSep_congr fun k _ => congrArg cred (hcell k))).trans ?_
  rw [bigSep_fin13]
  unfold credits
  iintro ⟨H0, -, H2, -, H4, -, -, -, -, H9, H10, H11, H12⟩
  isplitl [H0]; · iexact H0
  isplitl [H2]; · iexact H2
  isplitl [H4]; · iexact H4
  isplitl [H9]; · iexact H9
  isplitl [H10]; · iexact H10
  isplitl [H11]; · iexact H11
  iexact H12

/-! ## The run -/

theorem full_share (c : Dev nD) (w : Fin cfg0.W) : (dats m 0 c).share w = fullShare := by unfold Dat.share; split <;> rfl

omit [FloatOps F] in
theorem start_of (c : Dev nD) :
    iprop(Pipeline.unscopedRestP Pipeline.Prefetch.none cfg0.spec c (fun b => m ((c : Thread nD τ).loc b)) ∗ levAts L lv
        ∗ Pipeline.launchCred O₀ c ∗ prngReg c (ρ c) ∗ (∃ K, ghost m K c))
      ⊢ |={Set.univ}=> iprop(start m c ∗ emp) := by
  iintro ⟨-, Hlev, Hc, -, Hg⟩
  imodintro
  unfold start
  isplitl
  · isplitl [Hg]; · iexact Hg
    isplitl [Hc]; · iapply (launch_credits (F := F) c); iexact Hc
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before₀ m c from rfl, scopedRest0_eq]
  unfold before₀ paPts pbPts
  iintro ⟨Hs, -, Hr⟩
  isplitl [Hs] <;> iassumption

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = after₁ c from rfl, scopedRest0_eq]
  unfold after₁ paPts pbPts
  rw [cellSems_eq]
  iintro ⟨Ha, Hb, Hbar, Hown⟩
  isplitl [Hbar]; · iexact Hbar
  isplitl [Hown]; · iexact Hown
  isplitl [Ha] <;> iassumption

/-- The staging cells are below everything a device owes. -/
theorem staging_waits (c : Dev nD) : (levAts L lv : sProp 𝕄) ⊢ Pipeline.cellsWaits cfgs (dats m) () 0 c :=
  Pipeline.cellsWaits_intro cfgs (dats m) () 0 c fun w s t =>
    mayWait_of (n := 0) (by fin_cases w <;> fin_cases s <;> exact Nat.le_refl 0) (by
      rcases t with ⟨_ | _, ht⟩
      · exact above_O₀ c
      · exact above_zero 0)

/-- Every array of device `c` after the run. -/
def final (c : Dev nD) (w : Fin cfg0.W) : Buf (Elt F) ((cfg0.win w).arr.view.loc (c : Thread nD τ)) := (dats m 0 c).arrAt w cfg0.N

set_option maxRecDepth 8000 in
/-- Every execution of the program on the four devices terminates, with every array at `final` and every semaphore counter
    at zero. -/
theorem run_main : θ_run defs (onTc (τ := τ) (main (F := F))) (init m ρ) (fun r =>
    (∀ c : Dev nD, ∀ w : Fin cfg0.W, r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ osem_own (Pipeline.PreFacts.none _) EP defs₀ 𝒱₀ m ρ main
    (hmain := fun _ => rfl)
    (hbody := body_runs m) (hne := fun w => by fin_cases w <;> exact Nat.succ_pos _) (harr := arr_whole0) (hstage := stage_whole0) (hshare := full_share m)
    (hdistinct := winFacts0.arr_inj)
    (O₀ := O₀) (howed₀ := fun _ => rfl) (howedN := fun _ => rfl)
    (L := L) (lv := lv) (hL := L_of_ne) (hwaits := staging_waits m)
    (G := dealt m) (G' := fun c => iprop(∃ K, ghost m K c)) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := share_out m)
    (hA := fun _ _ => rfl) (hpf := fun _ k => k.elim0)
    (X := start m) (Y := fun c => unscopedSems0 c) (Z := fun _ => iprop(emp))
    (hX := start_of m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays after the run hold what they held. -/
theorem final_arg0 (c : Dev nD) : final m c (0 : Fin 3) = m ((c : Thread nD τ).loc main_arg0) :=
  (dats (F := F) m 0 c).arrAt_in (0 : Fin 3) rfl _
theorem final_arg1 (c : Dev nD) : final m c (1 : Fin 3) = m ((c : Thread nD τ).loc main_arg1) :=
  (dats (F := F) m 0 c).arrAt_in (1 : Fin 3) rfl _

end Cert.KernelIdeal.Exchange

end
-- ==== Proof.KernelIdeal.Tiles.lean ====
/-
# The result block over the extended reals, entry by entry

Over the extended reals each store of a tile adds, at the entries of the tile, one product of a row of the half that was
received and a column of the strip that was received. The eight tiles cover the result block once, so every entry of the block
ends as the device's own product plus one received product.
-/
module

public import proofs.«01_k».proof.Proof.KernelIdeal.Access
public import Idealize.ShloMosaic.Lib.MatmulPlain
public import Idealize.ShloMosaic.Lib.ValueIdx
public import Idealize.ShloMosaic.Lib.Pipeline.Value

@[expose] public section

noncomputable section

namespace Cert.KernelIdeal.Exchange

open Cert.KernelIdeal Cert.KernelIdeal.Gen
open Idealize.ShloMosaic Idealize.ShloMosaic.TcCoe Idealize.ShloMosaic.ValueIdx
open scoped BigOperators

/-- Entry `(i, n)` of the product of two matrices. -/
def entry {M K N : ℕ} (A : FVec Ideal ⟨2, ![M, K]⟩ .bf16) (B : FVec Ideal ⟨2, ![K, N]⟩ .bf16) (i : Fin M) (n : Fin N) : EReal :=
  ∑ k : Fin K, A (ix2 i k) * B (ix2 k n)

/-- A product accumulated onto zero, at an entry. -/
theorem product_entry {M K N : ℕ} (A : FVec Ideal ⟨2, ![M, K]⟩ .bf16) (B : FVec Ideal ⟨2, ![K, N]⟩ .bf16) (i : Fin M) (n : Fin N) :
    FloatOps.matmul (DotDims.plain M K N) none A B (constant ⟨2, ![M, N]⟩ .f32 0x00000000#32) (ix2 i n) = entry A B i n := by
  rw [Ideal.matmul_plain_apply, constant_apply, Ideal.ofBits_zero_f32, zero_add]
  rfl

/-- A unit window's index, in the array it is a window of. -/
theorem window_at {s : Shape} (off size : Fin s.rank → ℕ) (inb : ∀ a, off a + size a ≤ s.size a) (j : (Rect.unit off size inb).shape.Idx) (a : Fin s.rank) :
    ((Rect.unit off size inb).emb j a).val = off a + (j a).val :=
  by rw [Rect.emb_apply]; show off a + 1 * (j a).val = _; rw [Nat.one_mul]

/-- Reading the rows from `p` on of the received `A`. -/
theorem half_entry (p : ℕ) (inb : ∀ a, (![p, 0] : Fin 2 → ℕ) a + S1024x1024.size a ≤ S2048x1024.size a) (A : FVec Ideal S2048x1024 .bf16)
    (r : Fin 1024) (k : Fin 1024) (i : Fin 2048) (hi : i.val = p + r.val) :
    (paM.access (Rect.unit (s := S2048x1024) ![p, 0] S1024x1024.size inb)).read (Elt Ideal) A (ix2 r k) = A (ix2 i k) := by
  show A ((Rect.unit (s := S2048x1024) ![p, 0] S1024x1024.size inb).emb (ix2 r k)) = _
  refine congrArg A (funext fun a => Fin.ext ?_)
  rw [window_at]
  fin_cases a
  · exact hi.symm
  · exact Nat.zero_add _

/-- Reading the columns from `q` on of the received `B`. -/
theorem strip_entry (q : ℕ) (inb : ∀ a, (![0, q] : Fin 2 → ℕ) a + S1024x512.size a ≤ S1024x2048.size a) (B : FVec Ideal S1024x2048 .bf16)
    (k : Fin 1024) (t : Fin 512) (n : Fin 2048) (hn : n.val = q + t.val) :
    (pbM.access (Rect.unit (s := S1024x2048) ![0, q] S1024x512.size inb)).read (Elt Ideal) B (ix2 k t) = B (ix2 k n) := by
  show B ((Rect.unit (s := S1024x2048) ![0, q] S1024x512.size inb).emb (ix2 k t)) = _
  refine congrArg B (funext fun a => Fin.ext ?_)
  rw [window_at]
  fin_cases a
  · exact Nat.zero_add _
  · exact hn.symm

/-- The value stored in a tile: what the tile held plus the product of a half and a strip. -/
abbrev grown (v : FVec Ideal S1024x512 .f32) (a : FVec Ideal S1024x1024 .bf16) (b : FVec Ideal S1024x512 .bf16) : FVec Ideal S1024x512 .f32 :=
  addf (shapeCast S1024x512 v shapeCasts_S1024x512_S1024x512)
    (matmul dot_S1024x1024_S1024x512_S1024x512_1_0_0_1_n_n none a b (constant S1024x512 .f32 0x00000000#32))

/-- The result block after a tile at row `p` and column `q` has been stored: inside the tile one received product more, outside
    nothing changed. -/
theorem tile_entry (p q : ℕ) (off offA : Fin 2 → ℕ) (hoff : off = ![p, q]) (hoffA : offA = ![p, 0])
    (inb : ∀ a, off a + S1024x512.size a ≤ S2048x2048.size a) (inbA : ∀ a, offA a + S1024x1024.size a ≤ S2048x1024.size a)
    (inbB : ∀ a, (![0, q] : Fin 2 → ℕ) a + S1024x512.size a ≤ S1024x2048.size a)
    (f : FVec Ideal S2048x2048 .f32) (A : FVec Ideal S2048x1024 .bf16) (B : FVec Ideal S1024x2048 .bf16) (i n : Fin 2048) :
    putO (F := Ideal) (Rect.unit (s := S2048x2048) off S1024x512.size inb) f
        (grown (getO (F := Ideal) (Rect.unit (s := S2048x2048) off S1024x512.size inb) f)
          ((paM.access (Rect.unit (s := S2048x1024) offA S1024x1024.size inbA)).read (Elt Ideal) A)
          ((pbM.access (Rect.unit (s := S1024x2048) ![0, q] S1024x512.size inbB)).read (Elt Ideal) B)) (ix2 i n)
      = if (p ≤ i.val ∧ i.val < p + 1024) ∧ (q ≤ n.val ∧ n.val < q + 512) then f (ix2 i n) + entry A B i n else f (ix2 i n) := by
  subst hoff hoffA
  split
  · rename_i h
    obtain ⟨⟨hp, hp'⟩, hq, hq'⟩ := h
    have hr : i.val - p < 1024 := by omega
    have ht : n.val - q < 512 := by omega
    have hx : (Rect.unit (s := S2048x2048) ![p, q] S1024x512.size inb).emb (ix2 (⟨i.val - p, hr⟩ : Fin 1024) (⟨n.val - q, ht⟩ : Fin 512)) = ix2 i n := by
      refine funext fun a => Fin.ext ?_
      rw [window_at]
      fin_cases a
      · exact Nat.add_sub_of_le hp
      · exact Nat.add_sub_of_le hq
    have hw := View.write_emb_of_mem (v := (oM.access (Rect.unit (s := S2048x2048) ![p, q] S1024x512.size inb)))
      (Val := Elt Ideal) f (grown (getO (F := Ideal) (Rect.unit (s := S2048x2048) ![p, q] S1024x512.size inb) f)
          ((paM.access (Rect.unit (s := S2048x1024) ![p, 0] S1024x1024.size inbA)).read (Elt Ideal) A)
          ((pbM.access (Rect.unit (s := S1024x2048) ![0, q] S1024x512.size inbB)).read (Elt Ideal) B))
      (Finset.mem_univ (ix2 (⟨i.val - p, hr⟩ : Fin 1024) (⟨n.val - q, ht⟩ : Fin 512)))
    have hw' : putO (F := Ideal) (Rect.unit (s := S2048x2048) ![p, q] S1024x512.size inb) f
        (grown (getO (F := Ideal) (Rect.unit (s := S2048x2048) ![p, q] S1024x512.size inb) f)
          ((paM.access (Rect.unit (s := S2048x1024) ![p, 0] S1024x1024.size inbA)).read (Elt Ideal) A)
          ((pbM.access (Rect.unit (s := S1024x2048) ![0, q] S1024x512.size inbB)).read (Elt Ideal) B))
          ((Rect.unit (s := S2048x2048) ![p, q] S1024x512.size inb).emb (ix2 (⟨i.val - p, hr⟩ : Fin 1024) (⟨n.val - q, ht⟩ : Fin 512)))
        = grown (getO (F := Ideal) (Rect.unit (s := S2048x2048) ![p, q] S1024x512.size inb) f)
          ((paM.access (Rect.unit (s := S2048x1024) ![p, 0] S1024x1024.size inbA)).read (Elt Ideal) A)
          ((pbM.access (Rect.unit (s := S1024x2048) ![0, q] S1024x512.size inbB)).read (Elt Ideal) B)
          (ix2 (⟨i.val - p, hr⟩ : Fin 1024) (⟨n.val - q, ht⟩ : Fin 512)) := hw
    rw [hx] at hw'
    rw [hw']
    unfold grown
    rw [addf_apply, shapeCast_self]
    refine congrArg₂ (· + ·) ?_ ?_
    · show f ((Rect.unit (s := S2048x2048) ![p, q] S1024x512.size inb).emb _) = _
      rw [hx]
    · refine (product_entry (M := 1024) (K := 1024) (N := 512) _ _ _ _).trans (Finset.sum_congr rfl fun k _ => congrArg₂ (· * ·) ?_ ?_)
      · exact half_entry p inbA A _ k i (Nat.add_sub_of_le hp).symm
      · exact strip_entry q inbB B k _ n (Nat.add_sub_of_le hq).symm
  · rename_i h
    refine View.write_of_not_mem (v := (oM.access (Rect.unit (s := S2048x2048) ![p, q] S1024x512.size inb))) (Val := Elt Ideal) f _ _ (i := ix2 i n) ?_
    intro hm
    rw [View.setOn_univ, View.set_slice_whole, Rect.mem_set_unit] at hm
    exact h ⟨hm 0, hm 1⟩

/-! ## The nine stores -/

variable (m : (ℓ : Loc nD τ sig) → Buf (Elt Ideal) ℓ) (c : Dev nD) (i n : Fin 2048)

/-- The rows this device receives, and the columns of a strip. -/
abbrev InMine (c : Dev nD) (i : Fin 2048) : Prop := 1024 * (c.val % 2) ≤ i.val ∧ i.val < 1024 * (c.val % 2) + 1024
abbrev InTheirs (c : Dev nD) (i : Fin 2048) : Prop := 1024 - 1024 * (c.val % 2) ≤ i.val ∧ i.val < 1024 - 1024 * (c.val % 2) + 1024
abbrev InStrip (q : ℕ) (n : Fin 2048) : Prop := q ≤ n.val ∧ n.val < q + 512

theorem out0_entry : out0 m c (ix2 i n) = entry (xa m c) (xb m c) i n := by
  unfold out0 k0_pay1
  rw [shapeCast_self, shapeCast_self]
  exact product_entry (M := 2048) (K := 1024) (N := 2048) _ _ _ _
theorem out1_entry : out1 m c (ix2 i n) = if InMine c i ∧ InStrip 0 n then out0 m c (ix2 i n) + entry (xa m (across c)) (xb m (across c)) i n else out0 m c (ix2 i n) :=
  tile_entry _ 0 _ _ (k0_off2_eq c) (k0_off3_eq c) _ _ _ (out0 m c) (xa m (across c)) (xb m (across c)) i n
theorem out2_entry : out2 m c (ix2 i n) = if InTheirs c i ∧ InStrip 0 n then out1 m c (ix2 i n) + entry (xa m (across (beside c))) (xb m (across c)) i n else out1 m c (ix2 i n) :=
  tile_entry _ 0 _ _ (k0_off4_eq c) (k0_off5_eq c) _ _ _ (out1 m c) (xa m (across (beside c))) (xb m (across c)) i n
theorem out3_entry : out3 m c (ix2 i n) = if InMine c i ∧ InStrip 512 n then out2 m c (ix2 i n) + entry (xa m (across c)) (xb m (across c)) i n else out2 m c (ix2 i n) :=
  tile_entry _ 512 _ _ (k0_off6_eq c) (k0_off3_eq c) _ _ _ (out2 m c) (xa m (across c)) (xb m (across c)) i n
theorem out4_entry : out4 m c (ix2 i n) = if InTheirs c i ∧ InStrip 512 n then out3 m c (ix2 i n) + entry (xa m (across (beside c))) (xb m (across c)) i n else out3 m c (ix2 i n) :=
  tile_entry _ 512 _ _ (k0_off7_eq c) (k0_off5_eq c) _ _ _ (out3 m c) (xa m (across (beside c))) (xb m (across c)) i n
theorem out5_entry : out5 m c (ix2 i n) = if InMine c i ∧ InStrip 1024 n then out4 m c (ix2 i n) + entry (xa m (across c)) (xb m (across c)) i n else out4 m c (ix2 i n) :=
  tile_entry _ 1024 _ _ (k0_off8_eq c) (k0_off3_eq c) _ _ _ (out4 m c) (xa m (across c)) (xb m (across c)) i n
theorem out6_entry : out6 m c (ix2 i n) = if InTheirs c i ∧ InStrip 1024 n then out5 m c (ix2 i n) + entry (xa m (across (beside c))) (xb m (across c)) i n else out5 m c (ix2 i n) :=
  tile_entry _ 1024 _ _ (k0_off9_eq c) (k0_off5_eq c) _ _ _ (out5 m c) (xa m (across (beside c))) (xb m (across c)) i n
theorem out7_entry : out7 m c (ix2 i n) = if InMine c i ∧ InStrip 1536 n then out6 m c (ix2 i n) + entry (xa m (across c)) (xb m (across c)) i n else out6 m c (ix2 i n) :=
  tile_entry _ 1536 _ _ (k0_off10_eq c) (k0_off3_eq c) _ _ _ (out6 m c) (xa m (across c)) (xb m (across c)) i n
theorem out8_entry : outAt m c (ix2 i n) = if InTheirs c i ∧ InStrip 1536 n then out7 m c (ix2 i n) + entry (xa m (across (beside c))) (xb m (across c)) i n else out7 m c (ix2 i n) :=
  tile_entry _ 1536 _ _ (k0_off11_eq c) (k0_off5_eq c) _ _ _ (out7 m c) (xa m (across (beside c))) (xb m (across c)) i n

/-- Eight disjoint tiles that cover everything: exactly one of them adds. -/
theorem one_tile {α : Type} [Add α] (c : Dev nD) (i n : Fin 2048) (o a b : α) :
    (∀ o1 o2 o3 o4 o5 o6 o7 o8 : α,
      o1 = (if InMine c i ∧ InStrip 0 n then o + a else o) → o2 = (if InTheirs c i ∧ InStrip 0 n then o1 + b else o1) →
      o3 = (if InMine c i ∧ InStrip 512 n then o2 + a else o2) → o4 = (if InTheirs c i ∧ InStrip 512 n then o3 + b else o3) →
      o5 = (if InMine c i ∧ InStrip 1024 n then o4 + a else o4) → o6 = (if InTheirs c i ∧ InStrip 1024 n then o5 + b else o5) →
      o7 = (if InMine c i ∧ InStrip 1536 n then o6 + a else o6) → o8 = (if InTheirs c i ∧ InStrip 1536 n then o7 + b else o7) →
      o8 = o + if InMine c i then a else b) := by
  intro o1 o2 o3 o4 o5 o6 o7 o8 h1 h2 h3 h4 h5 h6 h7 h8
  have hi := i.isLt
  have hn := n.isLt
  have hc : c.val % 2 < 2 := Nat.mod_lt _ (by decide)
  by_cases hm : InMine c i
  · have ht : ¬ InTheirs c i := by unfold InMine at hm; unfold InTheirs; omega
    rw [if_neg fun h => ht h.1] at h2 h4 h6 h8
    rw [if_pos hm, h8, h7, h6, h5, h4, h3, h2, h1]
    unfold InStrip
    unfold InMine at hm ⊢
    split_ifs <;> first | rfl | (exfalso; omega)
  · have ht : InTheirs c i := by unfold InMine at hm; unfold InTheirs; omega
    rw [if_neg fun h => hm h.1] at h1 h3 h5 h7
    rw [if_neg hm, h8, h7, h6, h5, h4, h3, h2, h1]
    unfold InStrip
    unfold InTheirs at ht ⊢
    split_ifs <;> first | rfl | (exfalso; omega)

/-- What the result block ends holding: the device's own product plus the product of what it received. -/
theorem outAt_entry : outAt m c (ix2 i n)
    = entry (xa m c) (xb m c) i n + if InMine c i then entry (xa m (across c)) (xb m (across c)) i n else entry (xa m (across (beside c))) (xb m (across c)) i n := by
  rw [← out0_entry m c i n]
  exact one_tile c i n _ _ _ _ _ _ _ _ _ _ _ (out1_entry m c i n) (out2_entry m c i n) (out3_entry m c i n) (out4_entry m c i n)
    (out5_entry m c i n) (out6_entry m c i n) (out7_entry m c i n) (out8_entry m c i n)

end Cert.KernelIdeal.Exchange

end
-- ==== Proof.KernelIdeal.Blocks.lean ====
/-
# The device's blocks and the whole arrays

Each window of the launch is a whole array, so the staged blocks are the arguments and the result array ends as the kernel left
its staged block. A device's block of the whole `A` is the columns of its first mesh coordinate; its block of the whole `B` is
the rows of its first and the columns of its second.
-/
module

public import proofs.«01_k».proof.Proof.KernelIdeal.Launch
public import proofs.«01_k».proof.Proof.KernelIdeal.Tiles
public import Idealize.ShloMosaic.Lib.Layout

@[expose] public section

noncomputable section

namespace Cert.KernelIdeal.Exchange

open Cert.KernelIdeal Cert.KernelIdeal.Gen
open Idealize.ShloMosaic Idealize.ShloMosaic.TcCoe Idealize.ShloMosaic.ValueIdx
open scoped BigOperators

section Whole

variable {F : FTy → Type} [FloatOps F] (m : (ℓ : Loc nD τ sig) → Buf (Elt F) ℓ)

theorem xa_eq (c : Dev nD) : xa m c = m ((c : Thread nD τ).loc main_arg0) :=
  Memref.read_access_unit_zero (Elt F) main_arg0 (off := fun a => win0_0.index (0 : Fin 1) a * main_arg0.ty.shape.size a)
    (funext fun a => by fin_cases a <;> decide) (fun a => by fin_cases a <;> decide) _
theorem xb_eq (c : Dev nD) : xb m c = m ((c : Thread nD τ).loc main_arg1) :=
  Memref.read_access_unit_zero (Elt F) main_arg1 (off := fun a => win0_1.index (0 : Fin 1) a * main_arg1.ty.shape.size a)
    (funext fun a => by fin_cases a <;> decide) (fun a => by fin_cases a <;> decide) _

/-- A whole-array window cuts nothing off. -/
theorem cut_whole {α : Type} (X : S2048x2048.Idx → α) : (cfg0.win (2 : Fin 3)).cut (cfg0.grid.coords (0 : Fin 1)) X = X := rfl

/-- A write through the result's window replaces the array. -/
theorem write_whole (f X : S2048x2048.Idx → Elt F .f32) : (win0_2.blk (0 : Fin 1)).view.write (Elt F) f X Finset.univ = X :=
  Memref.write_access_unit_zero_univ (Elt F) main_v1 (off := fun a => win0_2.index (0 : Fin 1) a * main_v1.ty.shape.size a)
    (funext fun a => by fin_cases a <;> decide) (fun a => by fin_cases a <;> decide) f X

theorem after_out (c : Dev nD) : (dats m 0 c).after (2 : Fin 3) (0 : Fin 1) = outAt m c := by
  unfold dats; dsimp only

/-- The result array ends as the kernel left the staged block. -/
theorem final_out (c : Dev nD) : final m c (2 : Fin 3) = outAt m c := by
  have h := (dats m 0 c).arrAt_succ (2 : Fin 3) (0 : Fin 1)
  rw [if_pos (flush0_2 (0 : Fin 1))] at h
  refine h.trans ((write_whole _ _).trans ?_)
  exact (cut_whole _).trans (after_out m c)

end Whole

/-! ## The blocks of the whole arrays -/

abbrev wholeA : Shape := ⟨2, ![2048, 2048]⟩
abbrev wholeB : Shape := ⟨2, ![2048, 4096]⟩

/-- Where row or column `k` of a device's block lies in the whole array. -/
def deep (c : Dev nD) (k : Fin 1024) : Fin 2048 := ⟨1024 * (c.val / 2) + k.val, by have := c.isLt; have h : c.val < 4 := c.isLt; omega⟩
def wide (c : Dev nD) (n : Fin 2048) : Fin 4096 := ⟨2048 * (c.val % 2) + n.val, by omega⟩

theorem blockA_entry (c : Dev nD) (A : wholeA.Idx → EReal) (i : Fin 2048) (k : Fin 1024) :
    (Layout.blockN ⟨2, ![2048, 1024]⟩ wholeA (Layout.meshBlock [2, 2] ![[], [0]] c) A) (ix2 i k) = A (ix2 i (deep c k)) := by
  rw [Layout.blockN_apply]
  refine congrArg A (funext fun a => Fin.ext ?_)
  rw [Layout.TilesN.idx_val]
  fin_cases a
  · show 0 * 2048 + i.val = i.val
    omega
  · show (Layout.meshLin [2, 2] c.val [0]) * 1024 + k.val = 1024 * (c.val / 2) + k.val
    rw [show Layout.meshLin [2, 2] c.val [0] = c.val / 2 from by revert c; decide]
    omega

theorem blockB_entry (c : Dev nD) (B : wholeB.Idx → EReal) (k : Fin 1024) (n : Fin 2048) :
    (Layout.blockN ⟨2, ![1024, 2048]⟩ wholeB (Layout.meshBlock [2, 2] ![[0], [1]] c) B) (ix2 k n) = B (ix2 (deep c k) (wide c n)) := by
  rw [Layout.blockN_apply]
  refine congrArg B (funext fun a => Fin.ext ?_)
  rw [Layout.TilesN.idx_val]
  fin_cases a
  · show (Layout.meshLin [2, 2] c.val [0]) * 1024 + k.val = 1024 * (c.val / 2) + k.val
    rw [show Layout.meshLin [2, 2] c.val [0] = c.val / 2 from by revert c; decide]
    omega
  · show (Layout.meshLin [2, 2] c.val [1]) * 2048 + n.val = 2048 * (c.val % 2) + n.val
    rw [show Layout.meshLin [2, 2] c.val [1] = c.val % 2 from by revert c; decide]
    omega

theorem blockO_entry (c : Dev nD) (O : wholeB.Idx → EReal) (i n : Fin 2048) :
    (Layout.blockN ⟨2, ![2048, 2048]⟩ wholeB (Layout.meshBlock [2, 2] ![[], [1]] c) O) (ix2 i n) = O (ix2 i (wide c n)) := by
  rw [Layout.blockN_apply]
  refine congrArg O (funext fun a => Fin.ext ?_)
  rw [Layout.TilesN.idx_val]
  fin_cases a
  · show 0 * 2048 + i.val = i.val
    omega
  · show (Layout.meshLin [2, 2] c.val [1]) * 2048 + n.val = 2048 * (c.val % 2) + n.val
    rw [show Layout.meshLin [2, 2] c.val [1] = c.val % 2 from by revert c; decide]
    omega

/-! ## The two halves of a contraction -/

/-- A sum over 2048 positions is the sum over either half of them plus the sum over the other half. -/
theorem sum_halves {α : Type} [AddCommMonoid α] (c : Dev nD) (f : Fin 2048 → α) :
    ∑ k, f k = (∑ k, f (deep c k)) + ∑ k, f (deep (across c) k) := by
  have h : ∑ k, f k = (∑ k : Fin 1024, f ⟨k.val, by omega⟩) + ∑ k : Fin 1024, f ⟨1024 + k.val, by omega⟩ :=
    Fin.sum_univ_add (a := 1024) (b := 1024) f
  have h0 (d : Dev nD) (hd : d.val / 2 = 0) : ∑ k, f (deep d k) = ∑ k : Fin 1024, f ⟨k.val, by omega⟩ :=
    Finset.sum_congr rfl fun k _ => congrArg f (Fin.ext (by show 1024 * (d.val / 2) + k.val = k.val; rw [hd]; exact Nat.zero_add _))
  have h1 (d : Dev nD) (hd : d.val / 2 = 1) : ∑ k, f (deep d k) = ∑ k : Fin 1024, f ⟨1024 + k.val, by omega⟩ :=
    Finset.sum_congr rfl fun k _ => congrArg f (Fin.ext (by show 1024 * (d.val / 2) + k.val = 1024 + k.val; rw [hd]))
  rcases (by revert c; decide : (c.val / 2 = 0 ∧ (across c).val / 2 = 1) ∨ (c.val / 2 = 1 ∧ (across c).val / 2 = 0)) with ⟨ha, hb⟩ | ⟨ha, hb⟩
  · rw [h, h0 _ ha, h1 _ hb]
  · rw [h, h1 _ ha, h0 _ hb, add_comm]

theorem deep_across_beside (c : Dev nD) (k : Fin 1024) : deep (across (beside c)) k = deep (across c) k :=
  Fin.ext (by show 1024 * ((across (beside c)).val / 2) + k.val = 1024 * ((across c).val / 2) + k.val; rw [show (across (beside c)).val / 2 = (across c).val / 2 from by revert c; decide])
theorem wide_across (c : Dev nD) (n : Fin 2048) : wide (across c) n = wide c n :=
  Fin.ext (by show 2048 * ((across c).val % 2) + n.val = 2048 * (c.val % 2) + n.val; rw [show (across c).val % 2 = c.val % 2 from by revert c; decide])

/-! ## The result block is a block of the whole product -/

variable (m : (ℓ : Loc nD τ sig) → Buf (Elt Ideal) ℓ) (A : FVec Ideal wholeA .bf16) (B : FVec Ideal wholeB .bf16)

/-- On devices that hold the blocks of `A` and `B`, the result block of device `c` ends, entry by entry, as the product of the
    whole `A` and the whole `B` at the columns `c` holds. -/
theorem outAt_product
    (hA : ∀ c : Dev nD, m ((c : Thread nD τ).loc main_arg0) = Layout.blockN ⟨2, ![2048, 1024]⟩ wholeA (Layout.meshBlock [2, 2] ![[], [0]] c) A)
    (hB : ∀ c : Dev nD, m ((c : Thread nD τ).loc main_arg1) = Layout.blockN ⟨2, ![1024, 2048]⟩ wholeB (Layout.meshBlock [2, 2] ![[0], [1]] c) B)
    (c : Dev nD) (i n : Fin 2048) : outAt m c (ix2 i n) = entry A B i (wide c n) := by
  have ha (d : Dev nD) (k : Fin 1024) : xa m d (ix2 i k) = A (ix2 i (deep d k)) := by
    rw [xa_eq, hA]; exact blockA_entry d A i k
  have hb (d : Dev nD) (k : Fin 1024) : xb m d (ix2 k n) = B (ix2 (deep d k) (wide d n)) := by
    rw [xb_eq, hB]; exact blockB_entry d B k n
  have he (d e : Dev nD) (hde : ∀ k, deep d k = deep e k) : entry (xa m d) (xb m e) i n = ∑ k, A (ix2 i (deep e k)) * B (ix2 (deep e k) (wide e n)) :=
    Finset.sum_congr rfl fun k _ => by rw [ha, hb, hde]
  rw [outAt_entry, he c c fun _ => rfl, he (across c) (across c) fun _ => rfl, he (across (beside c)) (across c) (deep_across_beside c),
    ite_self, wide_across]
  exact (sum_halves c fun k => A (ix2 i k) * B (ix2 k (wide c n))).symm

end Cert.KernelIdeal.Exchange

end
-- ==== Proof.Equation.lean ====
/-
# The kernel's result against the reference's

The reference multiplies the whole arrays on one device; over the extended reals its two changes of format leave the product as
it is. The kernel's result on each device is the block of that product which the device holds.
-/
module

public import proofs.«01_k».proof.Proof.KernelIdeal.Blocks
public import proofs.«01_k».proof.Proof.Gen.ReferenceIdeal.Run
public import Idealize.ShloMosaic.Lib.StackMember

@[expose] public section

noncomputable section

namespace Cert.Proof

open Idealize.ShloMosaic Idealize.ShloMosaic.TcCoe Idealize.ShloMosaic.ValueIdx Cert.ReferenceIdeal.Facts₀
open Cert.KernelIdeal.Exchange (wholeA wholeB entry wide outAt outAt_product blockO_entry)

/-- The reference's result of the whole arrays. -/
def product (A : FVec Ideal wholeA .bf16) (B : FVec Ideal wholeB .bf16) : FVec Ideal wholeB .f32 :=
  extf .f32 (truncf .bf16 (Host.dotGeneral Cert.ReferenceIdeal.dot_S2048x2048_S2048x4096_S2048x4096_1_0_0_1_n_n none A B)
    bitsLt_bf16_f32) bitsLt_bf16_f32

theorem product_apply (A : FVec Ideal wholeA .bf16) (B : FVec Ideal wholeB .bf16) (i : Fin 2048) (n : Fin 4096) :
    product A B (ix2 i n) = entry A B i n := by
  unfold product
  rw [extf_apply, truncf_apply]
  exact StackMember.dotGeneral_plain_apply (m := 2048) (k := 2048) (n := 4096) none A B i n

/-- Every device's result block is its block of the product of the whole arrays. -/
theorem outAt_block (m : (ℓ : Loc Cert.KernelIdeal.nD Cert.KernelIdeal.τ Cert.KernelIdeal.sig) → Buf (Elt Ideal) ℓ)
    (A : FVec Ideal wholeA .bf16) (B : FVec Ideal wholeB .bf16)
    (hA : ∀ c : Dev Cert.KernelIdeal.nD, m ((c.tc : Thread Cert.KernelIdeal.nD Cert.KernelIdeal.τ).loc Cert.KernelIdeal.main_arg0)
      = Layout.blockN ⟨2, ![2048, 1024]⟩ wholeA (Layout.meshBlock [2, 2] ![[], [0]] c) A)
    (hB : ∀ c : Dev Cert.KernelIdeal.nD, m ((c.tc : Thread Cert.KernelIdeal.nD Cert.KernelIdeal.τ).loc Cert.KernelIdeal.main_arg1)
      = Layout.blockN ⟨2, ![1024, 2048]⟩ wholeB (Layout.meshBlock [2, 2] ![[0], [1]] c) B) (c : Dev Cert.KernelIdeal.nD) :
    outAt m c = Layout.blockN ⟨2, ![2048, 2048]⟩ wholeB (Layout.meshBlock [2, 2] ![[], [1]] c) (product A B) := by
  refine funext fun j => ?_
  obtain ⟨i, n, rfl⟩ : ∃ (i n : Fin 2048), j = ix2 i n := ⟨j 0, j 1, eq_ix2 j⟩
  rw [outAt_product m A B hA hB c i n, ← product_apply]
  exact (blockO_entry c (product A B) i n).symm

end Cert.Proof

end
-- ==== Proof.lean ====
/-
# The certificate

Five claims. The kernel, read at machine words and read at extended reals, and the reference each run to the end, leave their
arguments as they were and every semaphore counter at zero. The kernel at extended reals is the kernel's own text, with no
operation replaced. And on four devices that hold their blocks of two arrays, the kernel ends with every device holding its block
of the product the reference computes on one device.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel at machine words runs, keeps its arguments and leaves every counter at zero. -/
theorem frame_kernel : Cert.quiescent_Kernel := fun m g _ =>
  (θ_run _ _ _).mono (fun _ h => ⟨fun c => ⟨(h.1 c 0).trans (Cert.Kernel.Exchange.final_arg0 m c), (h.1 c 1).trans (Cert.Kernel.Exchange.final_arg1 m c)⟩, h.2⟩)
    (Cert.Kernel.Exchange.run_main m g)

/-- So does the kernel at extended reals. -/
theorem frame_ideal : Cert.quiescent_KernelIdeal := fun m g _ =>
  (θ_run _ _ _).mono (fun _ h => ⟨fun c => ⟨(h.1 c 0).trans (Cert.KernelIdeal.Exchange.final_arg0 m c), (h.1 c 1).trans (Cert.KernelIdeal.Exchange.final_arg1 m c)⟩, h.2⟩)
    (Cert.KernelIdeal.Exchange.run_main m g)

/-- So does the reference, which declares no semaphore. -/
theorem frame_reference : Cert.quiescent_ReferenceIdeal := fun m g _ =>
  (θ_run _ _ _).mono (fun r h => ⟨fun c => (h c).2, sem_eq_zero_of_no_sems (by decide) r.2⟩) (Cert.ReferenceIdeal.Value.run m g)

/-- Every device ends holding its block of the reference's product. -/
theorem equation : Cert.algebraic_KernelIdeal_ReferenceIdeal := fun m g m' g' _ hm =>
  ⟨product (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun _ h c => ⟨(h.1 c 2).trans ((Cert.KernelIdeal.Exchange.final_out m c).trans
        (outAt_block m _ _ (fun c => (hm c).1) (fun c => (hm c).2) c)),
      (h.1 c 0).trans (Cert.KernelIdeal.Exchange.final_arg0 m c), (h.1 c 1).trans (Cert.KernelIdeal.Exchange.final_arg1 m c)⟩)
      (Cert.KernelIdeal.Exchange.run_main m g),
    (θ_run _ _ _).mono (fun _ h => h 0) (Cert.ReferenceIdeal.Value.run m' g')⟩

theorem claim : Cert.Claim := ⟨Cert.Kernel.Gen.facts, Cert.KernelIdeal.Gen.facts, Cert.ReferenceIdeal.Gen.facts,
  frame_kernel, frame_ideal, frame_reference, trivial, equation⟩

end Cert.Proof

end
